-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![32768, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S1x512 : Shape := ⟨2, ![1, 512]⟩
abbrev S32x1x512 : Shape := ⟨3, ![32, 1, 512]⟩
abbrev S32 : Shape := ⟨1, ![32]⟩
abbrev S_ : Shape := ⟨0, ![]⟩
abbrev S512 : Shape := ⟨1, ![512]⟩
abbrev S1 : Shape := ⟨1, ![1]⟩
abbrev S1x1x512 : Shape := ⟨3, ![1, 1, 512]⟩
abbrev S1024x1024 : Shape := ⟨2, ![1024, 1024]⟩
abbrev S32x1x1 : Shape := ⟨3, ![32, 1, 1]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S32x1x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 2 → Bool
  | ⟨0, _⟩ => false
  | ⟨1, _⟩ => true
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 2 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_290 : BitVec 32 := 1#32
  let v424 : BitVec 32 := Scalar.addi v2 c1_i32_290
  let c32_i32_291 : BitVec 32 := 32#32
  let v425 : BitVec 1 := Scalar.cmpi .slt v424 c32_i32_291
  let v426 : BitVec 32 := Scalar.extui v425
  let c0_i32_295 : BitVec 32 := 0#32
  let v427 : BitVec 1 := Scalar.cmpi .ne v426 c0_i32_295
  v427

def k0_dev32 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_283 : BitVec 32 := 1#32
  let v413 : BitVec 32 := Scalar.addi v2 c1_i32_283
  let c32_i32_284 : BitVec 32 := 32#32
  let c0_i32_285 : BitVec 32 := 0#32
  let v414 : BitVec 1 := Scalar.cmpi .eq c32_i32_284 c0_i32_285
  let c1_i32_286 : BitVec 32 := 1#32
  let v415 : BitVec 32 := Scalar.select v414 c1_i32_286 c32_i32_284
  let v416 : BitVec 32 := Scalar.remsi v413 v415
  let c0_i32_288 : BitVec 32 := 0#32
  let v418 : BitVec 1 := Scalar.cmpi .slt v416 c0_i32_288
  let c0_i32_289 : BitVec 32 := 0#32
  let v419 : BitVec 1 := Scalar.cmpi .slt v415 c0_i32_289
  let v420 : BitVec 1 := Scalar.xori v418 v419
  let c0_i32_287 : BitVec 32 := 0#32
  let v417 : BitVec 1 := Scalar.cmpi .ne v416 c0_i32_287
  let v421 : BitVec 1 := Scalar.andi v420 v417
  let v422 : BitVec 32 := Scalar.addi v416 v415
  let v423 : BitVec 32 := Scalar.select v421 v422 v416
  let c1_i32_1038 : BitVec 32 := 1#32
  let v1120 : BitVec 32 := Scalar.muli v423 c1_i32_1038
  let v1121 : BitVec 32 := Scalar.addi c0_i32_1039 v1120
  v1121.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_303 : BitVec 32 := 2#32
  let v439 : BitVec 32 := Scalar.addi v2 c2_i32_303
  let c32_i32_304 : BitVec 32 := 32#32
  let v440 : BitVec 1 := Scalar.cmpi .slt v439 c32_i32_304
  let v441 : BitVec 32 := Scalar.extui v440
  let c0_i32_308 : BitVec 32 := 0#32
  let v442 : BitVec 1 := Scalar.cmpi .ne v441 c0_i32_308
  v442

def k0_dev33 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_296 : BitVec 32 := 2#32
  let v428 : BitVec 32 := Scalar.addi v2 c2_i32_296
  let c32_i32_297 : BitVec 32 := 32#32
  let c0_i32_298 : BitVec 32 := 0#32
  let v429 : BitVec 1 := Scalar.cmpi .eq c32_i32_297 c0_i32_298
  let c1_i32_299 : BitVec 32 := 1#32
  let v430 : BitVec 32 := Scalar.select v429 c1_i32_299 c32_i32_297
  let v431 : BitVec 32 := Scalar.remsi v428 v430
  let c0_i32_301 : BitVec 32 := 0#32
  let v433 : BitVec 1 := Scalar.cmpi .slt v431 c0_i32_301
  let c0_i32_302 : BitVec 32 := 0#32
  let v434 : BitVec 1 := Scalar.cmpi .slt v430 c0_i32_302
  let v435 : BitVec 1 := Scalar.xori v433 v434
  let c0_i32_300 : BitVec 32 := 0#32
  let v432 : BitVec 1 := Scalar.cmpi .ne v431 c0_i32_300
  let v436 : BitVec 1 := Scalar.andi v435 v432
  let v437 : BitVec 32 := Scalar.addi v431 v430
  let v438 : BitVec 32 := Scalar.select v436 v437 v431
  let c1_i32_1038 : BitVec 32 := 1#32
  let v1120 : BitVec 32 := Scalar.muli v438 c1_i32_1038
  let v1121 : BitVec 32 := Scalar.addi c0_i32_1039 v1120
  v1121.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_316 : BitVec 32 := 3#32
  let v454 : BitVec 32 := Scalar.addi v2 c3_i32_316
  let c32_i32_317 : BitVec 32 := 32#32
  let v455 : BitVec 1 := Scalar.cmpi .slt v454 c32_i32_317
  let v456 : BitVec 32 := Scalar.extui v455
  let c0_i32_321 : BitVec 32 := 0#32
  let v457 : BitVec 1 := Scalar.cmpi .ne v456 c0_i32_321
  v457

def k0_dev34 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_309 : BitVec 32 := 3#32
  let v443 : BitVec 32 := Scalar.addi v2 c3_i32_309
  let c32_i32_310 : BitVec 32 := 32#32
  let c0_i32_311 : BitVec 32 := 0#32
  let v444 : BitVec 1 := Scalar.cmpi .eq c32_i32_310 c0_i32_311
  let c1_i32_312 : BitVec 32 := 1#32
  let v445 : BitVec 32 := Scalar.select v444 c1_i32_312 c32_i32_310
  let v446 : BitVec 32 := Scalar.remsi v443 v445
  let c0_i32_314 : BitVec 32 := 0#32
  let v448 : BitVec 1 := Scalar.cmpi .slt v446 c0_i32_314
  let c0_i32_315 : BitVec 32 := 0#32
  let v449 : BitVec 1 := Scalar.cmpi .slt v445 c0_i32_315
  let v450 : BitVec 1 := Scalar.xori v448 v449
  let c0_i32_313 : BitVec 32 := 0#32
  let v447 : BitVec 1 := Scalar.cmpi .ne v446 c0_i32_313
  let v451 : BitVec 1 := Scalar.andi v450 v447
  let v452 : BitVec 32 := Scalar.addi v446 v445
  let v453 : BitVec 32 := Scalar.select v451 v452 v446
  let c1_i32_1038 : BitVec 32 := 1#32
  let v1120 : BitVec 32 := Scalar.muli v453 c1_i32_1038
  let v1121 : BitVec 32 := Scalar.addi c0_i32_1039 v1120
  v1121.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_329 : BitVec 32 := 4#32
  let v469 : BitVec 32 := Scalar.addi v2 c4_i32_329
  let c32_i32_330 : BitVec 32 := 32#32
  let v470 : BitVec 1 := Scalar.cmpi .slt v469 c32_i32_330
  let v471 : BitVec 32 := Scalar.extui v470
  let c0_i32_334 : BitVec 32 := 0#32
  let v472 : BitVec 1 := Scalar.cmpi .ne v471 c0_i32_334
  v472

def k0_dev35 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_322 : BitVec 32 := 4#32
  let v458 : BitVec 32 := Scalar.addi v2 c4_i32_322
  let c32_i32_323 : BitVec 32 := 32#32
  let c0_i32_324 : BitVec 32 := 0#32
  let v459 : BitVec 1 := Scalar.cmpi .eq c32_i32_323 c0_i32_324
  let c1_i32_325 : BitVec 32 := 1#32
  let v460 : BitVec 32 := Scalar.select v459 c1_i32_325 c32_i32_323
  let v461 : BitVec 32 := Scalar.remsi v458 v460
  let c0_i32_327 : BitVec 32 := 0#32
  let v463 : BitVec 1 := Scalar.cmpi .slt v461 c0_i32_327
  let c0_i32_328 : BitVec 32 := 0#32
  let v464 : BitVec 1 := Scalar.cmpi .slt v460 c0_i32_328
  let v465 : BitVec 1 := Scalar.xori v463 v464
  let c0_i32_326 : BitVec 32 := 0#32
  let v462 : BitVec 1 := Scalar.cmpi .ne v461 c0_i32_326
  let v466 : BitVec 1 := Scalar.andi v465 v462
  let v467 : BitVec 32 := Scalar.addi v461 v460
  let v468 : BitVec 32 := Scalar.select v466 v467 v461
  let c1_i32_1038 : BitVec 32 := 1#32
  let v1120 : BitVec 32 := Scalar.muli v468 c1_i32_1038
  let v1121 : BitVec 32 := Scalar.addi c0_i32_1039 v1120
  v1121.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_342 : BitVec 32 := 5#32
  let v484 : BitVec 32 := Scalar.addi v2 c5_i32_342
  let c32_i32_343 : BitVec 32 := 32#32
  let v485 : BitVec 1 := Scalar.cmpi .slt v484 c32_i32_343
  let v486 : BitVec 32 := Scalar.extui v485
  let c0_i32_347 : BitVec 32 := 0#32
  let v487 : BitVec 1 := Scalar.cmpi .ne v486 c0_i32_347
  v487

def k0_dev36 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_335 : BitVec 32 := 5#32
  let v473 : BitVec 32 := Scalar.addi v2 c5_i32_335
  let c32_i32_336 : BitVec 32 := 32#32
  let c0_i32_337 : BitVec 32 := 0#32
  let v474 : BitVec 1 := Scalar.cmpi .eq c32_i32_336 c0_i32_337
  let c1_i32_338 : BitVec 32 := 1#32
  let v475 : BitVec 32 := Scalar.select v474 c1_i32_338 c32_i32_336
  let v476 : BitVec 32 := Scalar.remsi v473 v475
  let c0_i32_340 : BitVec 32 := 0#32
  let v478 : BitVec 1 := Scalar.cmpi .slt v476 c0_i32_340
  let c0_i32_341 : BitVec 32 := 0#32
  let v479 : BitVec 1 := Scalar.cmpi .slt v475 c0_i32_341
  let v480 : BitVec 1 := Scalar.xori v478 v479
  let c0_i32_339 : BitVec 32 := 0#32
  let v477 : BitVec 1 := Scalar.cmpi .ne v476 c0_i32_339
  let v481 : BitVec 1 := Scalar.andi v480 v477
  let v482 : BitVec 32 := Scalar.addi v476 v475
  let v483 : BitVec 32 := Scalar.select v481 v482 v476
  let c1_i32_1038 : BitVec 32 := 1#32
  let v1120 : BitVec 32 := Scalar.muli v483 c1_i32_1038
  let v1121 : BitVec 32 := Scalar.addi c0_i32_1039 v1120
  v1121.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_355 : BitVec 32 := 6#32
  let v499 : BitVec 32 := Scalar.addi v2 c6_i32_355
  let c32_i32_356 : BitVec 32 := 32#32
  let v500 : BitVec 1 := Scalar.cmpi .slt v499 c32_i32_356
  let v501 : BitVec 32 := Scalar.extui v500
  let c0_i32_360 : BitVec 32 := 0#32
  let v502 : BitVec 1 := Scalar.cmpi .ne v501 c0_i32_360
  v502

def k0_dev37 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_348 : BitVec 32 := 6#32
  let v488 : BitVec 32 := Scalar.addi v2 c6_i32_348
  let c32_i32_349 : BitVec 32 := 32#32
  let c0_i32_350 : BitVec 32 := 0#32
  let v489 : BitVec 1 := Scalar.cmpi .eq c32_i32_349 c0_i32_350
  let c1_i32_351 : BitVec 32 := 1#32
  let v490 : BitVec 32 := Scalar.select v489 c1_i32_351 c32_i32_349
  let v491 : BitVec 32 := Scalar.remsi v488 v490
  let c0_i32_353 : BitVec 32 := 0#32
  let v493 : BitVec 1 := Scalar.cmpi .slt v491 c0_i32_353
  let c0_i32_354 : BitVec 32 := 0#32
  let v494 : BitVec 1 := Scalar.cmpi .slt v490 c0_i32_354
  let v495 : BitVec 1 := Scalar.xori v493 v494
  let c0_i32_352 : BitVec 32 := 0#32
  let v492 : BitVec 1 := Scalar.cmpi .ne v491 c0_i32_352
  let v496 : BitVec 1 := Scalar.andi v495 v492
  let v497 : BitVec 32 := Scalar.addi v491 v490
  let v498 : BitVec 32 := Scalar.select v496 v497 v491
  let c1_i32_1038 : BitVec 32 := 1#32
  let v1120 : BitVec 32 := Scalar.muli v498 c1_i32_1038
  let v1121 : BitVec 32 := Scalar.addi c0_i32_1039 v1120
  v1121.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_368 : BitVec 32 := 7#32
  let v514 : BitVec 32 := Scalar.addi v2 c7_i32_368
  let c32_i32_369 : BitVec 32 := 32#32
  let v515 : BitVec 1 := Scalar.cmpi .slt v514 c32_i32_369
  let v516 : BitVec 32 := Scalar.extui v515
  let c0_i32_373 : BitVec 32 := 0#32
  let v517 : BitVec 1 := Scalar.cmpi .ne v516 c0_i32_373
  v517

def k0_dev38 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_361 : BitVec 32 := 7#32
  let v503 : BitVec 32 := Scalar.addi v2 c7_i32_361
  let c32_i32_362 : BitVec 32 := 32#32
  let c0_i32_363 : BitVec 32 := 0#32
  let v504 : BitVec 1 := Scalar.cmpi .eq c32_i32_362 c0_i32_363
  let c1_i32_364 : BitVec 32 := 1#32
  let v505 : BitVec 32 := Scalar.select v504 c1_i32_364 c32_i32_362
  let v506 : BitVec 32 := Scalar.remsi v503 v505
  let c0_i32_366 : BitVec 32 := 0#32
  let v508 : BitVec 1 := Scalar.cmpi .slt v506 c0_i32_366
  let c0_i32_367 : BitVec 32 := 0#32
  let v509 : BitVec 1 := Scalar.cmpi .slt v505 c0_i32_367
  let v510 : BitVec 1 := Scalar.xori v508 v509
  let c0_i32_365 : BitVec 32 := 0#32
  let v507 : BitVec 1 := Scalar.cmpi .ne v506 c0_i32_365
  let v511 : BitVec 1 := Scalar.andi v510 v507
  let v512 : BitVec 32 := Scalar.addi v506 v505
  let v513 : BitVec 32 := Scalar.select v511 v512 v506
  let c1_i32_1038 : BitVec 32 := 1#32
  let v1120 : BitVec 32 := Scalar.muli v513 c1_i32_1038
  let v1121 : BitVec 32 := Scalar.addi c0_i32_1039 v1120
  v1121.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_381 : BitVec 32 := 8#32
  let v529 : BitVec 32 := Scalar.addi v2 c8_i32_381
  let c32_i32_382 : BitVec 32 := 32#32
  let v530 : BitVec 1 := Scalar.cmpi .slt v529 c32_i32_382
  let v531 : BitVec 32 := Scalar.extui v530
  let c0_i32_386 : BitVec 32 := 0#32
  let v532 : BitVec 1 := Scalar.cmpi .ne v531 c0_i32_386
  v532

def k0_dev39 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_374 : BitVec 32 := 8#32
  let v518 : BitVec 32 := Scalar.addi v2 c8_i32_374
  let c32_i32_375 : BitVec 32 := 32#32
  let c0_i32_376 : BitVec 32 := 0#32
  let v519 : BitVec 1 := Scalar.cmpi .eq c32_i32_375 c0_i32_376
  let c1_i32_377 : BitVec 32 := 1#32
  let v520 : BitVec 32 := Scalar.select v519 c1_i32_377 c32_i32_375
  let v521 : BitVec 32 := Scalar.remsi v518 v520
  let c0_i32_379 : BitVec 32 := 0#32
  let v523 : BitVec 1 := Scalar.cmpi .slt v521 c0_i32_379
  let c0_i32_380 : BitVec 32 := 0#32
  let v524 : BitVec 1 := Scalar.cmpi .slt v520 c0_i32_380
  let v525 : BitVec 1 := Scalar.xori v523 v524
  let c0_i32_378 : BitVec 32 := 0#32
  let v522 : BitVec 1 := Scalar.cmpi .ne v521 c0_i32_378
  let v526 : BitVec 1 := Scalar.andi v525 v522
  let v527 : BitVec 32 := Scalar.addi v521 v520
  let v528 : BitVec 32 := Scalar.select v526 v527 v521
  let c1_i32_1038 : BitVec 32 := 1#32
  let v1120 : BitVec 32 := Scalar.muli v528 c1_i32_1038
  let v1121 : BitVec 32 := Scalar.addi c0_i32_1039 v1120
  v1121.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_394 : BitVec 32 := 9#32
  let v544 : BitVec 32 := Scalar.addi v2 c9_i32_394
  let c32_i32_395 : BitVec 32 := 32#32
  let v545 : BitVec 1 := Scalar.cmpi .slt v544 c32_i32_395
  let v546 : BitVec 32 := Scalar.extui v545
  let c0_i32_399 : BitVec 32 := 0#32
  let v547 : BitVec 1 := Scalar.cmpi .ne v546 c0_i32_399
  v547

def k0_dev40 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_387 : BitVec 32 := 9#32
  let v533 : BitVec 32 := Scalar.addi v2 c9_i32_387
  let c32_i32_388 : BitVec 32 := 32#32
  let c0_i32_389 : BitVec 32 := 0#32
  let v534 : BitVec 1 := Scalar.cmpi .eq c32_i32_388 c0_i32_389
  let c1_i32_390 : BitVec 32 := 1#32
  let v535 : BitVec 32 := Scalar.select v534 c1_i32_390 c32_i32_388
  let v536 : BitVec 32 := Scalar.remsi v533 v535
  let c0_i32_392 : BitVec 32 := 0#32
  let v538 : BitVec 1 := Scalar.cmpi .slt v536 c0_i32_392
  let c0_i32_393 : BitVec 32 := 0#32
  let v539 : BitVec 1 := Scalar.cmpi .slt v535 c0_i32_393
  let v540 : BitVec 1 := Scalar.xori v538 v539
  let c0_i32_391 : BitVec 32 := 0#32
  let v537 : BitVec 1 := Scalar.cmpi .ne v536 c0_i32_391
  let v541 : BitVec 1 := Scalar.andi v540 v537
  let v542 : BitVec 32 := Scalar.addi v536 v535
  let v543 : BitVec 32 := Scalar.select v541 v542 v536
  let c1_i32_1038 : BitVec 32 := 1#32
  let v1120 : BitVec 32 := Scalar.muli v543 c1_i32_1038
  let v1121 : BitVec 32 := Scalar.addi c0_i32_1039 v1120
  v1121.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_407 : BitVec 32 := 10#32
  let v559 : BitVec 32 := Scalar.addi v2 c10_i32_407
  let c32_i32_408 : BitVec 32 := 32#32
  let v560 : BitVec 1 := Scalar.cmpi .slt v559 c32_i32_408
  let v561 : BitVec 32 := Scalar.extui v560
  let c0_i32_412 : BitVec 32 := 0#32
  let v562 : BitVec 1 := Scalar.cmpi .ne v561 c0_i32_412
  v562

def k0_dev41 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_400 : BitVec 32 := 10#32
  let v548 : BitVec 32 := Scalar.addi v2 c10_i32_400
  let c32_i32_401 : BitVec 32 := 32#32
  let c0_i32_402 : BitVec 32 := 0#32
  let v549 : BitVec 1 := Scalar.cmpi .eq c32_i32_401 c0_i32_402
  let c1_i32_403 : BitVec 32 := 1#32
  let v550 : BitVec 32 := Scalar.select v549 c1_i32_403 c32_i32_401
  let v551 : BitVec 32 := Scalar.remsi v548 v550
  let c0_i32_405 : BitVec 32 := 0#32
  let v553 : BitVec 1 := Scalar.cmpi .slt v551 c0_i32_405
  let c0_i32_406 : BitVec 32 := 0#32
  let v554 : BitVec 1 := Scalar.cmpi .slt v550 c0_i32_406
  let v555 : BitVec 1 := Scalar.xori v553 v554
  let c0_i32_404 : BitVec 32 := 0#32
  let v552 : BitVec 1 := Scalar.cmpi .ne v551 c0_i32_404
  let v556 : BitVec 1 := Scalar.andi v555 v552
  let v557 : BitVec 32 := Scalar.addi v551 v550
  let v558 : BitVec 32 := Scalar.select v556 v557 v551
  let c1_i32_1038 : BitVec 32 := 1#32
  let v1120 : BitVec 32 := Scalar.muli v558 c1_i32_1038
  let v1121 : BitVec 32 := Scalar.addi c0_i32_1039 v1120
  v1121.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_420 : BitVec 32 := 11#32
  let v574 : BitVec 32 := Scalar.addi v2 c11_i32_420
  let c32_i32_421 : BitVec 32 := 32#32
  let v575 : BitVec 1 := Scalar.cmpi .slt v574 c32_i32_421
  let v576 : BitVec 32 := Scalar.extui v575
  let c0_i32_425 : BitVec 32 := 0#32
  let v577 : BitVec 1 := Scalar.cmpi .ne v576 c0_i32_425
  v577

def k0_dev42 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_413 : BitVec 32 := 11#32
  let v563 : BitVec 32 := Scalar.addi v2 c11_i32_413
  let c32_i32_414 : BitVec 32 := 32#32
  let c0_i32_415 : BitVec 32 := 0#32
  let v564 : BitVec 1 := Scalar.cmpi .eq c32_i32_414 c0_i32_415
  let c1_i32_416 : BitVec 32 := 1#32
  let v565 : BitVec 32 := Scalar.select v564 c1_i32_416 c32_i32_414
  let v566 : BitVec 32 := Scalar.remsi v563 v565
  let c0_i32_418 : BitVec 32 := 0#32
  let v568 : BitVec 1 := Scalar.cmpi .slt v566 c0_i32_418
  let c0_i32_419 : BitVec 32 := 0#32
  let v569 : BitVec 1 := Scalar.cmpi .slt v565 c0_i32_419
  let v570 : BitVec 1 := Scalar.xori v568 v569
  let c0_i32_417 : BitVec 32 := 0#32
  let v567 : BitVec 1 := Scalar.cmpi .ne v566 c0_i32_417
  let v571 : BitVec 1 := Scalar.andi v570 v567
  let v572 : BitVec 32 := Scalar.addi v566 v565
  let v573 : BitVec 32 := Scalar.select v571 v572 v566
  let c1_i32_1038 : BitVec 32 := 1#32
  let v1120 : BitVec 32 := Scalar.muli v573 c1_i32_1038
  let v1121 : BitVec 32 := Scalar.addi c0_i32_1039 v1120
  v1121.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_433 : BitVec 32 := 12#32
  let v589 : BitVec 32 := Scalar.addi v2 c12_i32_433
  let c32_i32_434 : BitVec 32 := 32#32
  let v590 : BitVec 1 := Scalar.cmpi .slt v589 c32_i32_434
  let v591 : BitVec 32 := Scalar.extui v590
  let c0_i32_438 : BitVec 32 := 0#32
  let v592 : BitVec 1 := Scalar.cmpi .ne v591 c0_i32_438
  v592

def k0_dev43 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_426 : BitVec 32 := 12#32
  let v578 : BitVec 32 := Scalar.addi v2 c12_i32_426
  let c32_i32_427 : BitVec 32 := 32#32
  let c0_i32_428 : BitVec 32 := 0#32
  let v579 : BitVec 1 := Scalar.cmpi .eq c32_i32_427 c0_i32_428
  let c1_i32_429 : BitVec 32 := 1#32
  let v580 : BitVec 32 := Scalar.select v579 c1_i32_429 c32_i32_427
  let v581 : BitVec 32 := Scalar.remsi v578 v580
  let c0_i32_431 : BitVec 32 := 0#32
  let v583 : BitVec 1 := Scalar.cmpi .slt v581 c0_i32_431
  let c0_i32_432 : BitVec 32 := 0#32
  let v584 : BitVec 1 := Scalar.cmpi .slt v580 c0_i32_432
  let v585 : BitVec 1 := Scalar.xori v583 v584
  let c0_i32_430 : BitVec 32 := 0#32
  let v582 : BitVec 1 := Scalar.cmpi .ne v581 c0_i32_430
  let v586 : BitVec 1 := Scalar.andi v585 v582
  let v587 : BitVec 32 := Scalar.addi v581 v580
  let v588 : BitVec 32 := Scalar.select v586 v587 v581
  let c1_i32_1038 : BitVec 32 := 1#32
  let v1120 : BitVec 32 := Scalar.muli v588 c1_i32_1038
  let v1121 : BitVec 32 := Scalar.addi c0_i32_1039 v1120
  v1121.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_446 : BitVec 32 := 13#32
  let v604 : BitVec 32 := Scalar.addi v2 c13_i32_446
  let c32_i32_447 : BitVec 32 := 32#32
  let v605 : BitVec 1 := Scalar.cmpi .slt v604 c32_i32_447
  let v606 : BitVec 32 := Scalar.extui v605
  let c0_i32_451 : BitVec 32 := 0#32
  let v607 : BitVec 1 := Scalar.cmpi .ne v606 c0_i32_451
  v607

def k0_dev44 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_439 : BitVec 32 := 13#32
  let v593 : BitVec 32 := Scalar.addi v2 c13_i32_439
  let c32_i32_440 : BitVec 32 := 32#32
  let c0_i32_441 : BitVec 32 := 0#32
  let v594 : BitVec 1 := Scalar.cmpi .eq c32_i32_440 c0_i32_441
  let c1_i32_442 : BitVec 32 := 1#32
  let v595 : BitVec 32 := Scalar.select v594 c1_i32_442 c32_i32_440
  let v596 : BitVec 32 := Scalar.remsi v593 v595
  let c0_i32_444 : BitVec 32 := 0#32
  let v598 : BitVec 1 := Scalar.cmpi .slt v596 c0_i32_444
  let c0_i32_445 : BitVec 32 := 0#32
  let v599 : BitVec 1 := Scalar.cmpi .slt v595 c0_i32_445
  let v600 : BitVec 1 := Scalar.xori v598 v599
  let c0_i32_443 : BitVec 32 := 0#32
  let v597 : BitVec 1 := Scalar.cmpi .ne v596 c0_i32_443
  let v601 : BitVec 1 := Scalar.andi v600 v597
  let v602 : BitVec 32 := Scalar.addi v596 v595
  let v603 : BitVec 32 := Scalar.select v601 v602 v596
  let c1_i32_1038 : BitVec 32 := 1#32
  let v1120 : BitVec 32 := Scalar.muli v603 c1_i32_1038
  let v1121 : BitVec 32 := Scalar.addi c0_i32_1039 v1120
  v1121.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_459 : BitVec 32 := 14#32
  let v619 : BitVec 32 := Scalar.addi v2 c14_i32_459
  let c32_i32_460 : BitVec 32 := 32#32
  let v620 : BitVec 1 := Scalar.cmpi .slt v619 c32_i32_460
  let v621 : BitVec 32 := Scalar.extui v620
  let c0_i32_464 : BitVec 32 := 0#32
  let v622 : BitVec 1 := Scalar.cmpi .ne v621 c0_i32_464
  v622

def k0_dev45 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_452 : BitVec 32 := 14#32
  let v608 : BitVec 32 := Scalar.addi v2 c14_i32_452
  let c32_i32_453 : BitVec 32 := 32#32
  let c0_i32_454 : BitVec 32 := 0#32
  let v609 : BitVec 1 := Scalar.cmpi .eq c32_i32_453 c0_i32_454
  let c1_i32_455 : BitVec 32 := 1#32
  let v610 : BitVec 32 := Scalar.select v609 c1_i32_455 c32_i32_453
  let v611 : BitVec 32 := Scalar.remsi v608 v610
  let c0_i32_457 : BitVec 32 := 0#32
  let v613 : BitVec 1 := Scalar.cmpi .slt v611 c0_i32_457
  let c0_i32_458 : BitVec 32 := 0#32
  let v614 : BitVec 1 := Scalar.cmpi .slt v610 c0_i32_458
  let v615 : BitVec 1 := Scalar.xori v613 v614
  let c0_i32_456 : BitVec 32 := 0#32
  let v612 : BitVec 1 := Scalar.cmpi .ne v611 c0_i32_456
  let v616 : BitVec 1 := Scalar.andi v615 v612
  let v617 : BitVec 32 := Scalar.addi v611 v610
  let v618 : BitVec 32 := Scalar.select v616 v617 v611
  let c1_i32_1038 : BitVec 32 := 1#32
  let v1120 : BitVec 32 := Scalar.muli v618 c1_i32_1038
  let v1121 : BitVec 32 := Scalar.addi c0_i32_1039 v1120
  v1121.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_472 : BitVec 32 := 15#32
  let v634 : BitVec 32 := Scalar.addi v2 c15_i32_472
  let c32_i32_473 : BitVec 32 := 32#32
  let v635 : BitVec 1 := Scalar.cmpi .slt v634 c32_i32_473
  let v636 : BitVec 32 := Scalar.extui v635
  let c0_i32_477 : BitVec 32 := 0#32
  let v637 : BitVec 1 := Scalar.cmpi .ne v636 c0_i32_477
  v637

def k0_dev46 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_465 : BitVec 32 := 15#32
  let v623 : BitVec 32 := Scalar.addi v2 c15_i32_465
  let c32_i32_466 : BitVec 32 := 32#32
  let c0_i32_467 : BitVec 32 := 0#32
  let v624 : BitVec 1 := Scalar.cmpi .eq c32_i32_466 c0_i32_467
  let c1_i32_468 : BitVec 32 := 1#32
  let v625 : BitVec 32 := Scalar.select v624 c1_i32_468 c32_i32_466
  let v626 : BitVec 32 := Scalar.remsi v623 v625
  let c0_i32_470 : BitVec 32 := 0#32
  let v628 : BitVec 1 := Scalar.cmpi .slt v626 c0_i32_470
  let c0_i32_471 : BitVec 32 := 0#32
  let v629 : BitVec 1 := Scalar.cmpi .slt v625 c0_i32_471
  let v630 : BitVec 1 := Scalar.xori v628 v629
  let c0_i32_469 : BitVec 32 := 0#32
  let v627 : BitVec 1 := Scalar.cmpi .ne v626 c0_i32_469
  let v631 : BitVec 1 := Scalar.andi v630 v627
  let v632 : BitVec 32 := Scalar.addi v626 v625
  let v633 : BitVec 32 := Scalar.select v631 v632 v626
  let c1_i32_1038 : BitVec 32 := 1#32
  let v1120 : BitVec 32 := Scalar.muli v633 c1_i32_1038
  let v1121 : BitVec 32 := Scalar.addi c0_i32_1039 v1120
  v1121.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_485 : BitVec 32 := 16#32
  let v649 : BitVec 32 := Scalar.addi v2 c16_i32_485
  let c32_i32_486 : BitVec 32 := 32#32
  let v650 : BitVec 1 := Scalar.cmpi .slt v649 c32_i32_486
  let v651 : BitVec 32 := Scalar.extui v650
  let c0_i32_490 : BitVec 32 := 0#32
  let v652 : BitVec 1 := Scalar.cmpi .ne v651 c0_i32_490
  v652

def k0_dev47 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_478 : BitVec 32 := 16#32
  let v638 : BitVec 32 := Scalar.addi v2 c16_i32_478
  let c32_i32_479 : BitVec 32 := 32#32
  let c0_i32_480 : BitVec 32 := 0#32
  let v639 : BitVec 1 := Scalar.cmpi .eq c32_i32_479 c0_i32_480
  let c1_i32_481 : BitVec 32 := 1#32
  let v640 : BitVec 32 := Scalar.select v639 c1_i32_481 c32_i32_479
  let v641 : BitVec 32 := Scalar.remsi v638 v640
  let c0_i32_483 : BitVec 32 := 0#32
  let v643 : BitVec 1 := Scalar.cmpi .slt v641 c0_i32_483
  let c0_i32_484 : BitVec 32 := 0#32
  let v644 : BitVec 1 := Scalar.cmpi .slt v640 c0_i32_484
  let v645 : BitVec 1 := Scalar.xori v643 v644
  let c0_i32_482 : BitVec 32 := 0#32
  let v642 : BitVec 1 := Scalar.cmpi .ne v641 c0_i32_482
  let v646 : BitVec 1 := Scalar.andi v645 v642
  let v647 : BitVec 32 := Scalar.addi v641 v640
  let v648 : BitVec 32 := Scalar.select v646 v647 v641
  let c1_i32_1038 : BitVec 32 := 1#32
  let v1120 : BitVec 32 := Scalar.muli v648 c1_i32_1038
  let v1121 : BitVec 32 := Scalar.addi c0_i32_1039 v1120
  v1121.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_498 : BitVec 32 := 17#32
  let v664 : BitVec 32 := Scalar.addi v2 c17_i32_498
  let c32_i32_499 : BitVec 32 := 32#32
  let v665 : BitVec 1 := Scalar.cmpi .slt v664 c32_i32_499
  let v666 : BitVec 32 := Scalar.extui v665
  let c0_i32_503 : BitVec 32 := 0#32
  let v667 : BitVec 1 := Scalar.cmpi .ne v666 c0_i32_503
  v667

def k0_dev48 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_491 : BitVec 32 := 17#32
  let v653 : BitVec 32 := Scalar.addi v2 c17_i32_491
  let c32_i32_492 : BitVec 32 := 32#32
  let c0_i32_493 : BitVec 32 := 0#32
  let v654 : BitVec 1 := Scalar.cmpi .eq c32_i32_492 c0_i32_493
  let c1_i32_494 : BitVec 32 := 1#32
  let v655 : BitVec 32 := Scalar.select v654 c1_i32_494 c32_i32_492
  let v656 : BitVec 32 := Scalar.remsi v653 v655
  let c0_i32_496 : BitVec 32 := 0#32
  let v658 : BitVec 1 := Scalar.cmpi .slt v656 c0_i32_496
  let c0_i32_497 : BitVec 32 := 0#32
  let v659 : BitVec 1 := Scalar.cmpi .slt v655 c0_i32_497
  let v660 : BitVec 1 := Scalar.xori v658 v659
  let c0_i32_495 : BitVec 32 := 0#32
  let v657 : BitVec 1 := Scalar.cmpi .ne v656 c0_i32_495
  let v661 : BitVec 1 := Scalar.andi v660 v657
  let v662 : BitVec 32 := Scalar.addi v656 v655
  let v663 : BitVec 32 := Scalar.select v661 v662 v656
  let c1_i32_1038 : BitVec 32 := 1#32
  let v1120 : BitVec 32 := Scalar.muli v663 c1_i32_1038
  let v1121 : BitVec 32 := Scalar.addi c0_i32_1039 v1120
  v1121.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_511 : BitVec 32 := 18#32
  let v679 : BitVec 32 := Scalar.addi v2 c18_i32_511
  let c32_i32_512 : BitVec 32 := 32#32
  let v680 : BitVec 1 := Scalar.cmpi .slt v679 c32_i32_512
  let v681 : BitVec 32 := Scalar.extui v680
  let c0_i32_516 : BitVec 32 := 0#32
  let v682 : BitVec 1 := Scalar.cmpi .ne v681 c0_i32_516
  v682

def k0_dev49 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_504 : BitVec 32 := 18#32
  let v668 : BitVec 32 := Scalar.addi v2 c18_i32_504
  let c32_i32_505 : BitVec 32 := 32#32
  let c0_i32_506 : BitVec 32 := 0#32
  let v669 : BitVec 1 := Scalar.cmpi .eq c32_i32_505 c0_i32_506
  let c1_i32_507 : BitVec 32 := 1#32
  let v670 : BitVec 32 := Scalar.select v669 c1_i32_507 c32_i32_505
  let v671 : BitVec 32 := Scalar.remsi v668 v670
  let c0_i32_509 : BitVec 32 := 0#32
  let v673 : BitVec 1 := Scalar.cmpi .slt v671 c0_i32_509
  let c0_i32_510 : BitVec 32 := 0#32
  let v674 : BitVec 1 := Scalar.cmpi .slt v670 c0_i32_510
  let v675 : BitVec 1 := Scalar.xori v673 v674
  let c0_i32_508 : BitVec 32 := 0#32
  let v672 : BitVec 1 := Scalar.cmpi .ne v671 c0_i32_508
  let v676 : BitVec 1 := Scalar.andi v675 v672
  let v677 : BitVec 32 := Scalar.addi v671 v670
  let v678 : BitVec 32 := Scalar.select v676 v677 v671
  let c1_i32_1038 : BitVec 32 := 1#32
  let v1120 : BitVec 32 := Scalar.muli v678 c1_i32_1038
  let v1121 : BitVec 32 := Scalar.addi c0_i32_1039 v1120
  v1121.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_524 : BitVec 32 := 19#32
  let v694 : BitVec 32 := Scalar.addi v2 c19_i32_524
  let c32_i32_525 : BitVec 32 := 32#32
  let v695 : BitVec 1 := Scalar.cmpi .slt v694 c32_i32_525
  let v696 : BitVec 32 := Scalar.extui v695
  let c0_i32_529 : BitVec 32 := 0#32
  let v697 : BitVec 1 := Scalar.cmpi .ne v696 c0_i32_529
  v697

def k0_dev50 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_517 : BitVec 32 := 19#32
  let v683 : BitVec 32 := Scalar.addi v2 c19_i32_517
  let c32_i32_518 : BitVec 32 := 32#32
  let c0_i32_519 : BitVec 32 := 0#32
  let v684 : BitVec 1 := Scalar.cmpi .eq c32_i32_518 c0_i32_519
  let c1_i32_520 : BitVec 32 := 1#32
  let v685 : BitVec 32 := Scalar.select v684 c1_i32_520 c32_i32_518
  let v686 : BitVec 32 := Scalar.remsi v683 v685
  let c0_i32_522 : BitVec 32 := 0#32
  let v688 : BitVec 1 := Scalar.cmpi .slt v686 c0_i32_522
  let c0_i32_523 : BitVec 32 := 0#32
  let v689 : BitVec 1 := Scalar.cmpi .slt v685 c0_i32_523
  let v690 : BitVec 1 := Scalar.xori v688 v689
  let c0_i32_521 : BitVec 32 := 0#32
  let v687 : BitVec 1 := Scalar.cmpi .ne v686 c0_i32_521
  let v691 : BitVec 1 := Scalar.andi v690 v687
  let v692 : BitVec 32 := Scalar.addi v686 v685
  let v693 : BitVec 32 := Scalar.select v691 v692 v686
  let c1_i32_1038 : BitVec 32 := 1#32
  let v1120 : BitVec 32 := Scalar.muli v693 c1_i32_1038
  let v1121 : BitVec 32 := Scalar.addi c0_i32_1039 v1120
  v1121.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_537 : BitVec 32 := 20#32
  let v709 : BitVec 32 := Scalar.addi v2 c20_i32_537
  let c32_i32_538 : BitVec 32 := 32#32
  let v710 : BitVec 1 := Scalar.cmpi .slt v709 c32_i32_538
  let v711 : BitVec 32 := Scalar.extui v710
  let c0_i32_542 : BitVec 32 := 0#32
  let v712 : BitVec 1 := Scalar.cmpi .ne v711 c0_i32_542
  v712

def k0_dev51 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_530 : BitVec 32 := 20#32
  let v698 : BitVec 32 := Scalar.addi v2 c20_i32_530
  let c32_i32_531 : BitVec 32 := 32#32
  let c0_i32_532 : BitVec 32 := 0#32
  let v699 : BitVec 1 := Scalar.cmpi .eq c32_i32_531 c0_i32_532
  let c1_i32_533 : BitVec 32 := 1#32
  let v700 : BitVec 32 := Scalar.select v699 c1_i32_533 c32_i32_531
  let v701 : BitVec 32 := Scalar.remsi v698 v700
  let c0_i32_535 : BitVec 32 := 0#32
  let v703 : BitVec 1 := Scalar.cmpi .slt v701 c0_i32_535
  let c0_i32_536 : BitVec 32 := 0#32
  let v704 : BitVec 1 := Scalar.cmpi .slt v700 c0_i32_536
  let v705 : BitVec 1 := Scalar.xori v703 v704
  let c0_i32_534 : BitVec 32 := 0#32
  let v702 : BitVec 1 := Scalar.cmpi .ne v701 c0_i32_534
  let v706 : BitVec 1 := Scalar.andi v705 v702
  let v707 : BitVec 32 := Scalar.addi v701 v700
  let v708 : BitVec 32 := Scalar.select v706 v707 v701
  let c1_i32_1038 : BitVec 32 := 1#32
  let v1120 : BitVec 32 := Scalar.muli v708 c1_i32_1038
  let v1121 : BitVec 32 := Scalar.addi c0_i32_1039 v1120
  v1121.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_550 : BitVec 32 := 21#32
  let v724 : BitVec 32 := Scalar.addi v2 c21_i32_550
  let c32_i32_551 : BitVec 32 := 32#32
  let v725 : BitVec 1 := Scalar.cmpi .slt v724 c32_i32_551
  let v726 : BitVec 32 := Scalar.extui v725
  let c0_i32_555 : BitVec 32 := 0#32
  let v727 : BitVec 1 := Scalar.cmpi .ne v726 c0_i32_555
  v727

def k0_dev52 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_543 : BitVec 32 := 21#32
  let v713 : BitVec 32 := Scalar.addi v2 c21_i32_543
  let c32_i32_544 : BitVec 32 := 32#32
  let c0_i32_545 : BitVec 32 := 0#32
  let v714 : BitVec 1 := Scalar.cmpi .eq c32_i32_544 c0_i32_545
  let c1_i32_546 : BitVec 32 := 1#32
  let v715 : BitVec 32 := Scalar.select v714 c1_i32_546 c32_i32_544
  let v716 : BitVec 32 := Scalar.remsi v713 v715
  let c0_i32_548 : BitVec 32 := 0#32
  let v718 : BitVec 1 := Scalar.cmpi .slt v716 c0_i32_548
  let c0_i32_549 : BitVec 32 := 0#32
  let v719 : BitVec 1 := Scalar.cmpi .slt v715 c0_i32_549
  let v720 : BitVec 1 := Scalar.xori v718 v719
  let c0_i32_547 : BitVec 32 := 0#32
  let v717 : BitVec 1 := Scalar.cmpi .ne v716 c0_i32_547
  let v721 : BitVec 1 := Scalar.andi v720 v717
  let v722 : BitVec 32 := Scalar.addi v716 v715
  let v723 : BitVec 32 := Scalar.select v721 v722 v716
  let c1_i32_1038 : BitVec 32 := 1#32
  let v1120 : BitVec 32 := Scalar.muli v723 c1_i32_1038
  let v1121 : BitVec 32 := Scalar.addi c0_i32_1039 v1120
  v1121.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_563 : BitVec 32 := 22#32
  let v739 : BitVec 32 := Scalar.addi v2 c22_i32_563
  let c32_i32_564 : BitVec 32 := 32#32
  let v740 : BitVec 1 := Scalar.cmpi .slt v739 c32_i32_564
  let v741 : BitVec 32 := Scalar.extui v740
  let c0_i32_568 : BitVec 32 := 0#32
  let v742 : BitVec 1 := Scalar.cmpi .ne v741 c0_i32_568
  v742

def k0_dev53 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_556 : BitVec 32 := 22#32
  let v728 : BitVec 32 := Scalar.addi v2 c22_i32_556
  let c32_i32_557 : BitVec 32 := 32#32
  let c0_i32_558 : BitVec 32 := 0#32
  let v729 : BitVec 1 := Scalar.cmpi .eq c32_i32_557 c0_i32_558
  let c1_i32_559 : BitVec 32 := 1#32
  let v730 : BitVec 32 := Scalar.select v729 c1_i32_559 c32_i32_557
  let v731 : BitVec 32 := Scalar.remsi v728 v730
  let c0_i32_561 : BitVec 32 := 0#32
  let v733 : BitVec 1 := Scalar.cmpi .slt v731 c0_i32_561
  let c0_i32_562 : BitVec 32 := 0#32
  let v734 : BitVec 1 := Scalar.cmpi .slt v730 c0_i32_562
  let v735 : BitVec 1 := Scalar.xori v733 v734
  let c0_i32_560 : BitVec 32 := 0#32
  let v732 : BitVec 1 := Scalar.cmpi .ne v731 c0_i32_560
  let v736 : BitVec 1 := Scalar.andi v735 v732
  let v737 : BitVec 32 := Scalar.addi v731 v730
  let v738 : BitVec 32 := Scalar.select v736 v737 v731
  let c1_i32_1038 : BitVec 32 := 1#32
  let v1120 : BitVec 32 := Scalar.muli v738 c1_i32_1038
  let v1121 : BitVec 32 := Scalar.addi c0_i32_1039 v1120
  v1121.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_576 : BitVec 32 := 23#32
  let v754 : BitVec 32 := Scalar.addi v2 c23_i32_576
  let c32_i32_577 : BitVec 32 := 32#32
  let v755 : BitVec 1 := Scalar.cmpi .slt v754 c32_i32_577
  let v756 : BitVec 32 := Scalar.extui v755
  let c0_i32_581 : BitVec 32 := 0#32
  let v757 : BitVec 1 := Scalar.cmpi .ne v756 c0_i32_581
  v757

def k0_dev54 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_569 : BitVec 32 := 23#32
  let v743 : BitVec 32 := Scalar.addi v2 c23_i32_569
  let c32_i32_570 : BitVec 32 := 32#32
  let c0_i32_571 : BitVec 32 := 0#32
  let v744 : BitVec 1 := Scalar.cmpi .eq c32_i32_570 c0_i32_571
  let c1_i32_572 : BitVec 32 := 1#32
  let v745 : BitVec 32 := Scalar.select v744 c1_i32_572 c32_i32_570
  let v746 : BitVec 32 := Scalar.remsi v743 v745
  let c0_i32_574 : BitVec 32 := 0#32
  let v748 : BitVec 1 := Scalar.cmpi .slt v746 c0_i32_574
  let c0_i32_575 : BitVec 32 := 0#32
  let v749 : BitVec 1 := Scalar.cmpi .slt v745 c0_i32_575
  let v750 : BitVec 1 := Scalar.xori v748 v749
  let c0_i32_573 : BitVec 32 := 0#32
  let v747 : BitVec 1 := Scalar.cmpi .ne v746 c0_i32_573
  let v751 : BitVec 1 := Scalar.andi v750 v747
  let v752 : BitVec 32 := Scalar.addi v746 v745
  let v753 : BitVec 32 := Scalar.select v751 v752 v746
  let c1_i32_1038 : BitVec 32 := 1#32
  let v1120 : BitVec 32 := Scalar.muli v753 c1_i32_1038
  let v1121 : BitVec 32 := Scalar.addi c0_i32_1039 v1120
  v1121.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_589 : BitVec 32 := 24#32
  let v769 : BitVec 32 := Scalar.addi v2 c24_i32_589
  let c32_i32_590 : BitVec 32 := 32#32
  let v770 : BitVec 1 := Scalar.cmpi .slt v769 c32_i32_590
  let v771 : BitVec 32 := Scalar.extui v770
  let c0_i32_594 : BitVec 32 := 0#32
  let v772 : BitVec 1 := Scalar.cmpi .ne v771 c0_i32_594
  v772

def k0_dev55 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_582 : BitVec 32 := 24#32
  let v758 : BitVec 32 := Scalar.addi v2 c24_i32_582
  let c32_i32_583 : BitVec 32 := 32#32
  let c0_i32_584 : BitVec 32 := 0#32
  let v759 : BitVec 1 := Scalar.cmpi .eq c32_i32_583 c0_i32_584
  let c1_i32_585 : BitVec 32 := 1#32
  let v760 : BitVec 32 := Scalar.select v759 c1_i32_585 c32_i32_583
  let v761 : BitVec 32 := Scalar.remsi v758 v760
  let c0_i32_587 : BitVec 32 := 0#32
  let v763 : BitVec 1 := Scalar.cmpi .slt v761 c0_i32_587
  let c0_i32_588 : BitVec 32 := 0#32
  let v764 : BitVec 1 := Scalar.cmpi .slt v760 c0_i32_588
  let v765 : BitVec 1 := Scalar.xori v763 v764
  let c0_i32_586 : BitVec 32 := 0#32
  let v762 : BitVec 1 := Scalar.cmpi .ne v761 c0_i32_586
  let v766 : BitVec 1 := Scalar.andi v765 v762
  let v767 : BitVec 32 := Scalar.addi v761 v760
  let v768 : BitVec 32 := Scalar.select v766 v767 v761
  let c1_i32_1038 : BitVec 32 := 1#32
  let v1120 : BitVec 32 := Scalar.muli v768 c1_i32_1038
  let v1121 : BitVec 32 := Scalar.addi c0_i32_1039 v1120
  v1121.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_602 : BitVec 32 := 25#32
  let v784 : BitVec 32 := Scalar.addi v2 c25_i32_602
  let c32_i32_603 : BitVec 32 := 32#32
  let v785 : BitVec 1 := Scalar.cmpi .slt v784 c32_i32_603
  let v786 : BitVec 32 := Scalar.extui v785
  let c0_i32_607 : BitVec 32 := 0#32
  let v787 : BitVec 1 := Scalar.cmpi .ne v786 c0_i32_607
  v787

def k0_dev56 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_595 : BitVec 32 := 25#32
  let v773 : BitVec 32 := Scalar.addi v2 c25_i32_595
  let c32_i32_596 : BitVec 32 := 32#32
  let c0_i32_597 : BitVec 32 := 0#32
  let v774 : BitVec 1 := Scalar.cmpi .eq c32_i32_596 c0_i32_597
  let c1_i32_598 : BitVec 32 := 1#32
  let v775 : BitVec 32 := Scalar.select v774 c1_i32_598 c32_i32_596
  let v776 : BitVec 32 := Scalar.remsi v773 v775
  let c0_i32_600 : BitVec 32 := 0#32
  let v778 : BitVec 1 := Scalar.cmpi .slt v776 c0_i32_600
  let c0_i32_601 : BitVec 32 := 0#32
  let v779 : BitVec 1 := Scalar.cmpi .slt v775 c0_i32_601
  let v780 : BitVec 1 := Scalar.xori v778 v779
  let c0_i32_599 : BitVec 32 := 0#32
  let v777 : BitVec 1 := Scalar.cmpi .ne v776 c0_i32_599
  let v781 : BitVec 1 := Scalar.andi v780 v777
  let v782 : BitVec 32 := Scalar.addi v776 v775
  let v783 : BitVec 32 := Scalar.select v781 v782 v776
  let c1_i32_1038 : BitVec 32 := 1#32
  let v1120 : BitVec 32 := Scalar.muli v783 c1_i32_1038
  let v1121 : BitVec 32 := Scalar.addi c0_i32_1039 v1120
  v1121.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_615 : BitVec 32 := 26#32
  let v799 : BitVec 32 := Scalar.addi v2 c26_i32_615
  let c32_i32_616 : BitVec 32 := 32#32
  let v800 : BitVec 1 := Scalar.cmpi .slt v799 c32_i32_616
  let v801 : BitVec 32 := Scalar.extui v800
  let c0_i32_620 : BitVec 32 := 0#32
  let v802 : BitVec 1 := Scalar.cmpi .ne v801 c0_i32_620
  v802

def k0_dev57 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_608 : BitVec 32 := 26#32
  let v788 : BitVec 32 := Scalar.addi v2 c26_i32_608
  let c32_i32_609 : BitVec 32 := 32#32
  let c0_i32_610 : BitVec 32 := 0#32
  let v789 : BitVec 1 := Scalar.cmpi .eq c32_i32_609 c0_i32_610
  let c1_i32_611 : BitVec 32 := 1#32
  let v790 : BitVec 32 := Scalar.select v789 c1_i32_611 c32_i32_609
  let v791 : BitVec 32 := Scalar.remsi v788 v790
  let c0_i32_613 : BitVec 32 := 0#32
  let v793 : BitVec 1 := Scalar.cmpi .slt v791 c0_i32_613
  let c0_i32_614 : BitVec 32 := 0#32
  let v794 : BitVec 1 := Scalar.cmpi .slt v790 c0_i32_614
  let v795 : BitVec 1 := Scalar.xori v793 v794
  let c0_i32_612 : BitVec 32 := 0#32
  let v792 : BitVec 1 := Scalar.cmpi .ne v791 c0_i32_612
  let v796 : BitVec 1 := Scalar.andi v795 v792
  let v797 : BitVec 32 := Scalar.addi v791 v790
  let v798 : BitVec 32 := Scalar.select v796 v797 v791
  let c1_i32_1038 : BitVec 32 := 1#32
  let v1120 : BitVec 32 := Scalar.muli v798 c1_i32_1038
  let v1121 : BitVec 32 := Scalar.addi c0_i32_1039 v1120
  v1121.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_628 : BitVec 32 := 27#32
  let v814 : BitVec 32 := Scalar.addi v2 c27_i32_628
  let c32_i32_629 : BitVec 32 := 32#32
  let v815 : BitVec 1 := Scalar.cmpi .slt v814 c32_i32_629
  let v816 : BitVec 32 := Scalar.extui v815
  let c0_i32_633 : BitVec 32 := 0#32
  let v817 : BitVec 1 := Scalar.cmpi .ne v816 c0_i32_633
  v817

def k0_dev58 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_621 : BitVec 32 := 27#32
  let v803 : BitVec 32 := Scalar.addi v2 c27_i32_621
  let c32_i32_622 : BitVec 32 := 32#32
  let c0_i32_623 : BitVec 32 := 0#32
  let v804 : BitVec 1 := Scalar.cmpi .eq c32_i32_622 c0_i32_623
  let c1_i32_624 : BitVec 32 := 1#32
  let v805 : BitVec 32 := Scalar.select v804 c1_i32_624 c32_i32_622
  let v806 : BitVec 32 := Scalar.remsi v803 v805
  let c0_i32_626 : BitVec 32 := 0#32
  let v808 : BitVec 1 := Scalar.cmpi .slt v806 c0_i32_626
  let c0_i32_627 : BitVec 32 := 0#32
  let v809 : BitVec 1 := Scalar.cmpi .slt v805 c0_i32_627
  let v810 : BitVec 1 := Scalar.xori v808 v809
  let c0_i32_625 : BitVec 32 := 0#32
  let v807 : BitVec 1 := Scalar.cmpi .ne v806 c0_i32_625
  let v811 : BitVec 1 := Scalar.andi v810 v807
  let v812 : BitVec 32 := Scalar.addi v806 v805
  let v813 : BitVec 32 := Scalar.select v811 v812 v806
  let c1_i32_1038 : BitVec 32 := 1#32
  let v1120 : BitVec 32 := Scalar.muli v813 c1_i32_1038
  let v1121 : BitVec 32 := Scalar.addi c0_i32_1039 v1120
  v1121.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_641 : BitVec 32 := 28#32
  let v829 : BitVec 32 := Scalar.addi v2 c28_i32_641
  let c32_i32_642 : BitVec 32 := 32#32
  let v830 : BitVec 1 := Scalar.cmpi .slt v829 c32_i32_642
  let v831 : BitVec 32 := Scalar.extui v830
  let c0_i32_646 : BitVec 32 := 0#32
  let v832 : BitVec 1 := Scalar.cmpi .ne v831 c0_i32_646
  v832

def k0_dev59 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_634 : BitVec 32 := 28#32
  let v818 : BitVec 32 := Scalar.addi v2 c28_i32_634
  let c32_i32_635 : BitVec 32 := 32#32
  let c0_i32_636 : BitVec 32 := 0#32
  let v819 : BitVec 1 := Scalar.cmpi .eq c32_i32_635 c0_i32_636
  let c1_i32_637 : BitVec 32 := 1#32
  let v820 : BitVec 32 := Scalar.select v819 c1_i32_637 c32_i32_635
  let v821 : BitVec 32 := Scalar.remsi v818 v820
  let c0_i32_639 : BitVec 32 := 0#32
  let v823 : BitVec 1 := Scalar.cmpi .slt v821 c0_i32_639
  let c0_i32_640 : BitVec 32 := 0#32
  let v824 : BitVec 1 := Scalar.cmpi .slt v820 c0_i32_640
  let v825 : BitVec 1 := Scalar.xori v823 v824
  let c0_i32_638 : BitVec 32 := 0#32
  let v822 : BitVec 1 := Scalar.cmpi .ne v821 c0_i32_638
  let v826 : BitVec 1 := Scalar.andi v825 v822
  let v827 : BitVec 32 := Scalar.addi v821 v820
  let v828 : BitVec 32 := Scalar.select v826 v827 v821
  let c1_i32_1038 : BitVec 32 := 1#32
  let v1120 : BitVec 32 := Scalar.muli v828 c1_i32_1038
  let v1121 : BitVec 32 := Scalar.addi c0_i32_1039 v1120
  v1121.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_654 : BitVec 32 := 29#32
  let v844 : BitVec 32 := Scalar.addi v2 c29_i32_654
  let c32_i32_655 : BitVec 32 := 32#32
  let v845 : BitVec 1 := Scalar.cmpi .slt v844 c32_i32_655
  let v846 : BitVec 32 := Scalar.extui v845
  let c0_i32_659 : BitVec 32 := 0#32
  let v847 : BitVec 1 := Scalar.cmpi .ne v846 c0_i32_659
  v847

def k0_dev60 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_647 : BitVec 32 := 29#32
  let v833 : BitVec 32 := Scalar.addi v2 c29_i32_647
  let c32_i32_648 : BitVec 32 := 32#32
  let c0_i32_649 : BitVec 32 := 0#32
  let v834 : BitVec 1 := Scalar.cmpi .eq c32_i32_648 c0_i32_649
  let c1_i32_650 : BitVec 32 := 1#32
  let v835 : BitVec 32 := Scalar.select v834 c1_i32_650 c32_i32_648
  let v836 : BitVec 32 := Scalar.remsi v833 v835
  let c0_i32_652 : BitVec 32 := 0#32
  let v838 : BitVec 1 := Scalar.cmpi .slt v836 c0_i32_652
  let c0_i32_653 : BitVec 32 := 0#32
  let v839 : BitVec 1 := Scalar.cmpi .slt v835 c0_i32_653
  let v840 : BitVec 1 := Scalar.xori v838 v839
  let c0_i32_651 : BitVec 32 := 0#32
  let v837 : BitVec 1 := Scalar.cmpi .ne v836 c0_i32_651
  let v841 : BitVec 1 := Scalar.andi v840 v837
  let v842 : BitVec 32 := Scalar.addi v836 v835
  let v843 : BitVec 32 := Scalar.select v841 v842 v836
  let c1_i32_1038 : BitVec 32 := 1#32
  let v1120 : BitVec 32 := Scalar.muli v843 c1_i32_1038
  let v1121 : BitVec 32 := Scalar.addi c0_i32_1039 v1120
  v1121.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_667 : BitVec 32 := 30#32
  let v859 : BitVec 32 := Scalar.addi v2 c30_i32_667
  let c32_i32_668 : BitVec 32 := 32#32
  let v860 : BitVec 1 := Scalar.cmpi .slt v859 c32_i32_668
  let v861 : BitVec 32 := Scalar.extui v860
  let c0_i32_672 : BitVec 32 := 0#32
  let v862 : BitVec 1 := Scalar.cmpi .ne v861 c0_i32_672
  v862

def k0_dev61 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_660 : BitVec 32 := 30#32
  let v848 : BitVec 32 := Scalar.addi v2 c30_i32_660
  let c32_i32_661 : BitVec 32 := 32#32
  let c0_i32_662 : BitVec 32 := 0#32
  let v849 : BitVec 1 := Scalar.cmpi .eq c32_i32_661 c0_i32_662
  let c1_i32_663 : BitVec 32 := 1#32
  let v850 : BitVec 32 := Scalar.select v849 c1_i32_663 c32_i32_661
  let v851 : BitVec 32 := Scalar.remsi v848 v850
  let c0_i32_665 : BitVec 32 := 0#32
  let v853 : BitVec 1 := Scalar.cmpi .slt v851 c0_i32_665
  let c0_i32_666 : BitVec 32 := 0#32
  let v854 : BitVec 1 := Scalar.cmpi .slt v850 c0_i32_666
  let v855 : BitVec 1 := Scalar.xori v853 v854
  let c0_i32_664 : BitVec 32 := 0#32
  let v852 : BitVec 1 := Scalar.cmpi .ne v851 c0_i32_664
  let v856 : BitVec 1 := Scalar.andi v855 v852
  let v857 : BitVec 32 := Scalar.addi v851 v850
  let v858 : BitVec 32 := Scalar.select v856 v857 v851
  let c1_i32_1038 : BitVec 32 := 1#32
  let v1120 : BitVec 32 := Scalar.muli v858 c1_i32_1038
  let v1121 : BitVec 32 := Scalar.addi c0_i32_1039 v1120
  v1121.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_680 : BitVec 32 := 31#32
  let v874 : BitVec 32 := Scalar.addi v2 c31_i32_680
  let c32_i32_681 : BitVec 32 := 32#32
  let v875 : BitVec 1 := Scalar.cmpi .slt v874 c32_i32_681
  let v876 : BitVec 32 := Scalar.extui v875
  let c0_i32_685 : BitVec 32 := 0#32
  let v877 : BitVec 1 := Scalar.cmpi .ne v876 c0_i32_685
  v877

def k0_dev62 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_673 : BitVec 32 := 31#32
  let v863 : BitVec 32 := Scalar.addi v2 c31_i32_673
  let c32_i32_674 : BitVec 32 := 32#32
  let c0_i32_675 : BitVec 32 := 0#32
  let v864 : BitVec 1 := Scalar.cmpi .eq c32_i32_674 c0_i32_675
  let c1_i32_676 : BitVec 32 := 1#32
  let v865 : BitVec 32 := Scalar.select v864 c1_i32_676 c32_i32_674
  let v866 : BitVec 32 := Scalar.remsi v863 v865
  let c0_i32_678 : BitVec 32 := 0#32
  let v868 : BitVec 1 := Scalar.cmpi .slt v866 c0_i32_678
  let c0_i32_679 : BitVec 32 := 0#32
  let v869 : BitVec 1 := Scalar.cmpi .slt v865 c0_i32_679
  let v870 : BitVec 1 := Scalar.xori v868 v869
  let c0_i32_677 : BitVec 32 := 0#32
  let v867 : BitVec 1 := Scalar.cmpi .ne v866 c0_i32_677
  let v871 : BitVec 1 := Scalar.andi v870 v867
  let v872 : BitVec 32 := Scalar.addi v866 v865
  let v873 : BitVec 32 := Scalar.select v871 v872 v866
  let c1_i32_1038 : BitVec 32 := 1#32
  let v1120 : BitVec 32 := Scalar.muli v873 c1_i32_1038
  let v1121 : BitVec 32 := Scalar.addi c0_i32_1039 v1120
  v1121.toNat
def k0_dev63 (d0 : Dev nD) : Nat :=
  let c0_i32_1047_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1038_r0 : BitVec 32 := 1#32
  let v1121_r0 : BitVec 32 := Scalar.addi v2 c1_i32_1038_r0
  let c32_i32_1039_r0 : BitVec 32 := 32#32
  let c0_i32_1040_r0 : BitVec 32 := 0#32
  let v1122_r0 : BitVec 1 := Scalar.cmpi .eq c32_i32_1039_r0 c0_i32_1040_r0
  let c1_i32_1041_r0 : BitVec 32 := 1#32
  let v1123_r0 : BitVec 32 := Scalar.select v1122_r0 c1_i32_1041_r0 c32_i32_1039_r0
  let v1124_r0 : BitVec 32 := Scalar.remsi v1121_r0 v1123_r0
  let c0_i32_1043_r0 : BitVec 32 := 0#32
  let v1126_r0 : BitVec 1 := Scalar.cmpi .slt v1124_r0 c0_i32_1043_r0
  let c0_i32_1044_r0 : BitVec 32 := 0#32
  let v1127_r0 : BitVec 1 := Scalar.cmpi .slt v1123_r0 c0_i32_1044_r0
  let v1128_r0 : BitVec 1 := Scalar.xori v1126_r0 v1127_r0
  let c0_i32_1042_r0 : BitVec 32 := 0#32
  let v1125_r0 : BitVec 1 := Scalar.cmpi .ne v1124_r0 c0_i32_1042_r0
  let v1129_r0 : BitVec 1 := Scalar.andi v1128_r0 v1125_r0
  let v1130_r0 : BitVec 32 := Scalar.addi v1124_r0 v1123_r0
  let v1131_r0 : BitVec 32 := Scalar.select v1129_r0 v1130_r0 v1124_r0
  let c1_i32_1046_r0 : BitVec 32 := 1#32
  let v1132_r0 : BitVec 32 := Scalar.muli v1131_r0 c1_i32_1046_r0
  let v1133_r0 : BitVec 32 := Scalar.addi c0_i32_1047_r0 v1132_r0
  v1133_r0.toNat
def k0_dev64 (d0 : Dev nD) : Nat :=
  let c0_i32_1057_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1048_r0 : BitVec 32 := 2#32
  let v1134_r0 : BitVec 32 := Scalar.addi v2 c2_i32_1048_r0
  let c32_i32_1049_r0 : BitVec 32 := 32#32
  let c0_i32_1050_r0 : BitVec 32 := 0#32
  let v1135_r0 : BitVec 1 := Scalar.cmpi .eq c32_i32_1049_r0 c0_i32_1050_r0
  let c1_i32_1051_r0 : BitVec 32 := 1#32
  let v1136_r0 : BitVec 32 := Scalar.select v1135_r0 c1_i32_1051_r0 c32_i32_1049_r0
  let v1137_r0 : BitVec 32 := Scalar.remsi v1134_r0 v1136_r0
  let c0_i32_1053_r0 : BitVec 32 := 0#32
  let v1139_r0 : BitVec 1 := Scalar.cmpi .slt v1137_r0 c0_i32_1053_r0
  let c0_i32_1054_r0 : BitVec 32 := 0#32
  let v1140_r0 : BitVec 1 := Scalar.cmpi .slt v1136_r0 c0_i32_1054_r0
  let v1141_r0 : BitVec 1 := Scalar.xori v1139_r0 v1140_r0
  let c0_i32_1052_r0 : BitVec 32 := 0#32
  let v1138_r0 : BitVec 1 := Scalar.cmpi .ne v1137_r0 c0_i32_1052_r0
  let v1142_r0 : BitVec 1 := Scalar.andi v1141_r0 v1138_r0
  let v1143_r0 : BitVec 32 := Scalar.addi v1137_r0 v1136_r0
  let v1144_r0 : BitVec 32 := Scalar.select v1142_r0 v1143_r0 v1137_r0
  let c1_i32_1056_r0 : BitVec 32 := 1#32
  let v1145_r0 : BitVec 32 := Scalar.muli v1144_r0 c1_i32_1056_r0
  let v1146_r0 : BitVec 32 := Scalar.addi c0_i32_1057_r0 v1145_r0
  v1146_r0.toNat
def k0_dev65 (d0 : Dev nD) : Nat :=
  let c0_i32_1067_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1058_r0 : BitVec 32 := 3#32
  let v1147_r0 : BitVec 32 := Scalar.addi v2 c3_i32_1058_r0
  let c32_i32_1059_r0 : BitVec 32 := 32#32
  let c0_i32_1060_r0 : BitVec 32 := 0#32
  let v1148_r0 : BitVec 1 := Scalar.cmpi .eq c32_i32_1059_r0 c0_i32_1060_r0
  let c1_i32_1061_r0 : BitVec 32 := 1#32
  let v1149_r0 : BitVec 32 := Scalar.select v1148_r0 c1_i32_1061_r0 c32_i32_1059_r0
  let v1150_r0 : BitVec 32 := Scalar.remsi v1147_r0 v1149_r0
  let c0_i32_1063_r0 : BitVec 32 := 0#32
  let v1152_r0 : BitVec 1 := Scalar.cmpi .slt v1150_r0 c0_i32_1063_r0
  let c0_i32_1064_r0 : BitVec 32 := 0#32
  let v1153_r0 : BitVec 1 := Scalar.cmpi .slt v1149_r0 c0_i32_1064_r0
  let v1154_r0 : BitVec 1 := Scalar.xori v1152_r0 v1153_r0
  let c0_i32_1062_r0 : BitVec 32 := 0#32
  let v1151_r0 : BitVec 1 := Scalar.cmpi .ne v1150_r0 c0_i32_1062_r0
  let v1155_r0 : BitVec 1 := Scalar.andi v1154_r0 v1151_r0
  let v1156_r0 : BitVec 32 := Scalar.addi v1150_r0 v1149_r0
  let v1157_r0 : BitVec 32 := Scalar.select v1155_r0 v1156_r0 v1150_r0
  let c1_i32_1066_r0 : BitVec 32 := 1#32
  let v1158_r0 : BitVec 32 := Scalar.muli v1157_r0 c1_i32_1066_r0
  let v1159_r0 : BitVec 32 := Scalar.addi c0_i32_1067_r0 v1158_r0
  v1159_r0.toNat
def k0_dev66 (d0 : Dev nD) : Nat :=
  let c0_i32_1077_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1068_r0 : BitVec 32 := 4#32
  let v1160_r0 : BitVec 32 := Scalar.addi v2 c4_i32_1068_r0
  let c32_i32_1069_r0 : BitVec 32 := 32#32
  let c0_i32_1070_r0 : BitVec 32 := 0#32
  let v1161_r0 : BitVec 1 := Scalar.cmpi .eq c32_i32_1069_r0 c0_i32_1070_r0
  let c1_i32_1071_r0 : BitVec 32 := 1#32
  let v1162_r0 : BitVec 32 := Scalar.select v1161_r0 c1_i32_1071_r0 c32_i32_1069_r0
  let v1163_r0 : BitVec 32 := Scalar.remsi v1160_r0 v1162_r0
  let c0_i32_1073_r0 : BitVec 32 := 0#32
  let v1165_r0 : BitVec 1 := Scalar.cmpi .slt v1163_r0 c0_i32_1073_r0
  let c0_i32_1074_r0 : BitVec 32 := 0#32
  let v1166_r0 : BitVec 1 := Scalar.cmpi .slt v1162_r0 c0_i32_1074_r0
  let v1167_r0 : BitVec 1 := Scalar.xori v1165_r0 v1166_r0
  let c0_i32_1072_r0 : BitVec 32 := 0#32
  let v1164_r0 : BitVec 1 := Scalar.cmpi .ne v1163_r0 c0_i32_1072_r0
  let v1168_r0 : BitVec 1 := Scalar.andi v1167_r0 v1164_r0
  let v1169_r0 : BitVec 32 := Scalar.addi v1163_r0 v1162_r0
  let v1170_r0 : BitVec 32 := Scalar.select v1168_r0 v1169_r0 v1163_r0
  let c1_i32_1076_r0 : BitVec 32 := 1#32
  let v1171_r0 : BitVec 32 := Scalar.muli v1170_r0 c1_i32_1076_r0
  let v1172_r0 : BitVec 32 := Scalar.addi c0_i32_1077_r0 v1171_r0
  v1172_r0.toNat
def k0_dev67 (d0 : Dev nD) : Nat :=
  let c0_i32_1087_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1078_r0 : BitVec 32 := 5#32
  let v1173_r0 : BitVec 32 := Scalar.addi v2 c5_i32_1078_r0
  let c32_i32_1079_r0 : BitVec 32 := 32#32
  let c0_i32_1080_r0 : BitVec 32 := 0#32
  let v1174_r0 : BitVec 1 := Scalar.cmpi .eq c32_i32_1079_r0 c0_i32_1080_r0
  let c1_i32_1081_r0 : BitVec 32 := 1#32
  let v1175_r0 : BitVec 32 := Scalar.select v1174_r0 c1_i32_1081_r0 c32_i32_1079_r0
  let v1176_r0 : BitVec 32 := Scalar.remsi v1173_r0 v1175_r0
  let c0_i32_1083_r0 : BitVec 32 := 0#32
  let v1178_r0 : BitVec 1 := Scalar.cmpi .slt v1176_r0 c0_i32_1083_r0
  let c0_i32_1084_r0 : BitVec 32 := 0#32
  let v1179_r0 : BitVec 1 := Scalar.cmpi .slt v1175_r0 c0_i32_1084_r0
  let v1180_r0 : BitVec 1 := Scalar.xori v1178_r0 v1179_r0
  let c0_i32_1082_r0 : BitVec 32 := 0#32
  let v1177_r0 : BitVec 1 := Scalar.cmpi .ne v1176_r0 c0_i32_1082_r0
  let v1181_r0 : BitVec 1 := Scalar.andi v1180_r0 v1177_r0
  let v1182_r0 : BitVec 32 := Scalar.addi v1176_r0 v1175_r0
  let v1183_r0 : BitVec 32 := Scalar.select v1181_r0 v1182_r0 v1176_r0
  let c1_i32_1086_r0 : BitVec 32 := 1#32
  let v1184_r0 : BitVec 32 := Scalar.muli v1183_r0 c1_i32_1086_r0
  let v1185_r0 : BitVec 32 := Scalar.addi c0_i32_1087_r0 v1184_r0
  v1185_r0.toNat
def k0_dev68 (d0 : Dev nD) : Nat :=
  let c0_i32_1097_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1088_r0 : BitVec 32 := 6#32
  let v1186_r0 : BitVec 32 := Scalar.addi v2 c6_i32_1088_r0
  let c32_i32_1089_r0 : BitVec 32 := 32#32
  let c0_i32_1090_r0 : BitVec 32 := 0#32
  let v1187_r0 : BitVec 1 := Scalar.cmpi .eq c32_i32_1089_r0 c0_i32_1090_r0
  let c1_i32_1091_r0 : BitVec 32 := 1#32
  let v1188_r0 : BitVec 32 := Scalar.select v1187_r0 c1_i32_1091_r0 c32_i32_1089_r0
  let v1189_r0 : BitVec 32 := Scalar.remsi v1186_r0 v1188_r0
  let c0_i32_1093_r0 : BitVec 32 := 0#32
  let v1191_r0 : BitVec 1 := Scalar.cmpi .slt v1189_r0 c0_i32_1093_r0
  let c0_i32_1094_r0 : BitVec 32 := 0#32
  let v1192_r0 : BitVec 1 := Scalar.cmpi .slt v1188_r0 c0_i32_1094_r0
  let v1193_r0 : BitVec 1 := Scalar.xori v1191_r0 v1192_r0
  let c0_i32_1092_r0 : BitVec 32 := 0#32
  let v1190_r0 : BitVec 1 := Scalar.cmpi .ne v1189_r0 c0_i32_1092_r0
  let v1194_r0 : BitVec 1 := Scalar.andi v1193_r0 v1190_r0
  let v1195_r0 : BitVec 32 := Scalar.addi v1189_r0 v1188_r0
  let v1196_r0 : BitVec 32 := Scalar.select v1194_r0 v1195_r0 v1189_r0
  let c1_i32_1096_r0 : BitVec 32 := 1#32
  let v1197_r0 : BitVec 32 := Scalar.muli v1196_r0 c1_i32_1096_r0
  let v1198_r0 : BitVec 32 := Scalar.addi c0_i32_1097_r0 v1197_r0
  v1198_r0.toNat
def k0_dev69 (d0 : Dev nD) : Nat :=
  let c0_i32_1107_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1098_r0 : BitVec 32 := 7#32
  let v1199_r0 : BitVec 32 := Scalar.addi v2 c7_i32_1098_r0
  let c32_i32_1099_r0 : BitVec 32 := 32#32
  let c0_i32_1100_r0 : BitVec 32 := 0#32
  let v1200_r0 : BitVec 1 := Scalar.cmpi .eq c32_i32_1099_r0 c0_i32_1100_r0
  let c1_i32_1101_r0 : BitVec 32 := 1#32
  let v1201_r0 : BitVec 32 := Scalar.select v1200_r0 c1_i32_1101_r0 c32_i32_1099_r0
  let v1202_r0 : BitVec 32 := Scalar.remsi v1199_r0 v1201_r0
  let c0_i32_1103_r0 : BitVec 32 := 0#32
  let v1204_r0 : BitVec 1 := Scalar.cmpi .slt v1202_r0 c0_i32_1103_r0
  let c0_i32_1104_r0 : BitVec 32 := 0#32
  let v1205_r0 : BitVec 1 := Scalar.cmpi .slt v1201_r0 c0_i32_1104_r0
  let v1206_r0 : BitVec 1 := Scalar.xori v1204_r0 v1205_r0
  let c0_i32_1102_r0 : BitVec 32 := 0#32
  let v1203_r0 : BitVec 1 := Scalar.cmpi .ne v1202_r0 c0_i32_1102_r0
  let v1207_r0 : BitVec 1 := Scalar.andi v1206_r0 v1203_r0
  let v1208_r0 : BitVec 32 := Scalar.addi v1202_r0 v1201_r0
  let v1209_r0 : BitVec 32 := Scalar.select v1207_r0 v1208_r0 v1202_r0
  let c1_i32_1106_r0 : BitVec 32 := 1#32
  let v1210_r0 : BitVec 32 := Scalar.muli v1209_r0 c1_i32_1106_r0
  let v1211_r0 : BitVec 32 := Scalar.addi c0_i32_1107_r0 v1210_r0
  v1211_r0.toNat
def k0_dev70 (d0 : Dev nD) : Nat :=
  let c0_i32_1117_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1108_r0 : BitVec 32 := 8#32
  let v1212_r0 : BitVec 32 := Scalar.addi v2 c8_i32_1108_r0
  let c32_i32_1109_r0 : BitVec 32 := 32#32
  let c0_i32_1110_r0 : BitVec 32 := 0#32
  let v1213_r0 : BitVec 1 := Scalar.cmpi .eq c32_i32_1109_r0 c0_i32_1110_r0
  let c1_i32_1111_r0 : BitVec 32 := 1#32
  let v1214_r0 : BitVec 32 := Scalar.select v1213_r0 c1_i32_1111_r0 c32_i32_1109_r0
  let v1215_r0 : BitVec 32 := Scalar.remsi v1212_r0 v1214_r0
  let c0_i32_1113_r0 : BitVec 32 := 0#32
  let v1217_r0 : BitVec 1 := Scalar.cmpi .slt v1215_r0 c0_i32_1113_r0
  let c0_i32_1114_r0 : BitVec 32 := 0#32
  let v1218_r0 : BitVec 1 := Scalar.cmpi .slt v1214_r0 c0_i32_1114_r0
  let v1219_r0 : BitVec 1 := Scalar.xori v1217_r0 v1218_r0
  let c0_i32_1112_r0 : BitVec 32 := 0#32
  let v1216_r0 : BitVec 1 := Scalar.cmpi .ne v1215_r0 c0_i32_1112_r0
  let v1220_r0 : BitVec 1 := Scalar.andi v1219_r0 v1216_r0
  let v1221_r0 : BitVec 32 := Scalar.addi v1215_r0 v1214_r0
  let v1222_r0 : BitVec 32 := Scalar.select v1220_r0 v1221_r0 v1215_r0
  let c1_i32_1116_r0 : BitVec 32 := 1#32
  let v1223_r0 : BitVec 32 := Scalar.muli v1222_r0 c1_i32_1116_r0
  let v1224_r0 : BitVec 32 := Scalar.addi c0_i32_1117_r0 v1223_r0
  v1224_r0.toNat
def k0_dev71 (d0 : Dev nD) : Nat :=
  let c0_i32_1127_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1118_r0 : BitVec 32 := 9#32
  let v1225_r0 : BitVec 32 := Scalar.addi v2 c9_i32_1118_r0
  let c32_i32_1119_r0 : BitVec 32 := 32#32
  let c0_i32_1120_r0 : BitVec 32 := 0#32
  let v1226_r0 : BitVec 1 := Scalar.cmpi .eq c32_i32_1119_r0 c0_i32_1120_r0
  let c1_i32_1121_r0 : BitVec 32 := 1#32
  let v1227_r0 : BitVec 32 := Scalar.select v1226_r0 c1_i32_1121_r0 c32_i32_1119_r0
  let v1228_r0 : BitVec 32 := Scalar.remsi v1225_r0 v1227_r0
  let c0_i32_1123_r0 : BitVec 32 := 0#32
  let v1230_r0 : BitVec 1 := Scalar.cmpi .slt v1228_r0 c0_i32_1123_r0
  let c0_i32_1124_r0 : BitVec 32 := 0#32
  let v1231_r0 : BitVec 1 := Scalar.cmpi .slt v1227_r0 c0_i32_1124_r0
  let v1232_r0 : BitVec 1 := Scalar.xori v1230_r0 v1231_r0
  let c0_i32_1122_r0 : BitVec 32 := 0#32
  let v1229_r0 : BitVec 1 := Scalar.cmpi .ne v1228_r0 c0_i32_1122_r0
  let v1233_r0 : BitVec 1 := Scalar.andi v1232_r0 v1229_r0
  let v1234_r0 : BitVec 32 := Scalar.addi v1228_r0 v1227_r0
  let v1235_r0 : BitVec 32 := Scalar.select v1233_r0 v1234_r0 v1228_r0
  let c1_i32_1126_r0 : BitVec 32 := 1#32
  let v1236_r0 : BitVec 32 := Scalar.muli v1235_r0 c1_i32_1126_r0
  let v1237_r0 : BitVec 32 := Scalar.addi c0_i32_1127_r0 v1236_r0
  v1237_r0.toNat
def k0_dev72 (d0 : Dev nD) : Nat :=
  let c0_i32_1137_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1128_r0 : BitVec 32 := 10#32
  let v1238_r0 : BitVec 32 := Scalar.addi v2 c10_i32_1128_r0
  let c32_i32_1129_r0 : BitVec 32 := 32#32
  let c0_i32_1130_r0 : BitVec 32 := 0#32
  let v1239_r0 : BitVec 1 := Scalar.cmpi .eq c32_i32_1129_r0 c0_i32_1130_r0
  let c1_i32_1131_r0 : BitVec 32 := 1#32
  let v1240_r0 : BitVec 32 := Scalar.select v1239_r0 c1_i32_1131_r0 c32_i32_1129_r0
  let v1241_r0 : BitVec 32 := Scalar.remsi v1238_r0 v1240_r0
  let c0_i32_1133_r0 : BitVec 32 := 0#32
  let v1243_r0 : BitVec 1 := Scalar.cmpi .slt v1241_r0 c0_i32_1133_r0
  let c0_i32_1134_r0 : BitVec 32 := 0#32
  let v1244_r0 : BitVec 1 := Scalar.cmpi .slt v1240_r0 c0_i32_1134_r0
  let v1245_r0 : BitVec 1 := Scalar.xori v1243_r0 v1244_r0
  let c0_i32_1132_r0 : BitVec 32 := 0#32
  let v1242_r0 : BitVec 1 := Scalar.cmpi .ne v1241_r0 c0_i32_1132_r0
  let v1246_r0 : BitVec 1 := Scalar.andi v1245_r0 v1242_r0
  let v1247_r0 : BitVec 32 := Scalar.addi v1241_r0 v1240_r0
  let v1248_r0 : BitVec 32 := Scalar.select v1246_r0 v1247_r0 v1241_r0
  let c1_i32_1136_r0 : BitVec 32 := 1#32
  let v1249_r0 : BitVec 32 := Scalar.muli v1248_r0 c1_i32_1136_r0
  let v1250_r0 : BitVec 32 := Scalar.addi c0_i32_1137_r0 v1249_r0
  v1250_r0.toNat
def k0_dev73 (d0 : Dev nD) : Nat :=
  let c0_i32_1147_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1138_r0 : BitVec 32 := 11#32
  let v1251_r0 : BitVec 32 := Scalar.addi v2 c11_i32_1138_r0
  let c32_i32_1139_r0 : BitVec 32 := 32#32
  let c0_i32_1140_r0 : BitVec 32 := 0#32
  let v1252_r0 : BitVec 1 := Scalar.cmpi .eq c32_i32_1139_r0 c0_i32_1140_r0
  let c1_i32_1141_r0 : BitVec 32 := 1#32
  let v1253_r0 : BitVec 32 := Scalar.select v1252_r0 c1_i32_1141_r0 c32_i32_1139_r0
  let v1254_r0 : BitVec 32 := Scalar.remsi v1251_r0 v1253_r0
  let c0_i32_1143_r0 : BitVec 32 := 0#32
  let v1256_r0 : BitVec 1 := Scalar.cmpi .slt v1254_r0 c0_i32_1143_r0
  let c0_i32_1144_r0 : BitVec 32 := 0#32
  let v1257_r0 : BitVec 1 := Scalar.cmpi .slt v1253_r0 c0_i32_1144_r0
  let v1258_r0 : BitVec 1 := Scalar.xori v1256_r0 v1257_r0
  let c0_i32_1142_r0 : BitVec 32 := 0#32
  let v1255_r0 : BitVec 1 := Scalar.cmpi .ne v1254_r0 c0_i32_1142_r0
  let v1259_r0 : BitVec 1 := Scalar.andi v1258_r0 v1255_r0
  let v1260_r0 : BitVec 32 := Scalar.addi v1254_r0 v1253_r0
  let v1261_r0 : BitVec 32 := Scalar.select v1259_r0 v1260_r0 v1254_r0
  let c1_i32_1146_r0 : BitVec 32 := 1#32
  let v1262_r0 : BitVec 32 := Scalar.muli v1261_r0 c1_i32_1146_r0
  let v1263_r0 : BitVec 32 := Scalar.addi c0_i32_1147_r0 v1262_r0
  v1263_r0.toNat
def k0_dev74 (d0 : Dev nD) : Nat :=
  let c0_i32_1157_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1148_r0 : BitVec 32 := 12#32
  let v1264_r0 : BitVec 32 := Scalar.addi v2 c12_i32_1148_r0
  let c32_i32_1149_r0 : BitVec 32 := 32#32
  let c0_i32_1150_r0 : BitVec 32 := 0#32
  let v1265_r0 : BitVec 1 := Scalar.cmpi .eq c32_i32_1149_r0 c0_i32_1150_r0
  let c1_i32_1151_r0 : BitVec 32 := 1#32
  let v1266_r0 : BitVec 32 := Scalar.select v1265_r0 c1_i32_1151_r0 c32_i32_1149_r0
  let v1267_r0 : BitVec 32 := Scalar.remsi v1264_r0 v1266_r0
  let c0_i32_1153_r0 : BitVec 32 := 0#32
  let v1269_r0 : BitVec 1 := Scalar.cmpi .slt v1267_r0 c0_i32_1153_r0
  let c0_i32_1154_r0 : BitVec 32 := 0#32
  let v1270_r0 : BitVec 1 := Scalar.cmpi .slt v1266_r0 c0_i32_1154_r0
  let v1271_r0 : BitVec 1 := Scalar.xori v1269_r0 v1270_r0
  let c0_i32_1152_r0 : BitVec 32 := 0#32
  let v1268_r0 : BitVec 1 := Scalar.cmpi .ne v1267_r0 c0_i32_1152_r0
  let v1272_r0 : BitVec 1 := Scalar.andi v1271_r0 v1268_r0
  let v1273_r0 : BitVec 32 := Scalar.addi v1267_r0 v1266_r0
  let v1274_r0 : BitVec 32 := Scalar.select v1272_r0 v1273_r0 v1267_r0
  let c1_i32_1156_r0 : BitVec 32 := 1#32
  let v1275_r0 : BitVec 32 := Scalar.muli v1274_r0 c1_i32_1156_r0
  let v1276_r0 : BitVec 32 := Scalar.addi c0_i32_1157_r0 v1275_r0
  v1276_r0.toNat
def k0_dev75 (d0 : Dev nD) : Nat :=
  let c0_i32_1167_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1158_r0 : BitVec 32 := 13#32
  let v1277_r0 : BitVec 32 := Scalar.addi v2 c13_i32_1158_r0
  let c32_i32_1159_r0 : BitVec 32 := 32#32
  let c0_i32_1160_r0 : BitVec 32 := 0#32
  let v1278_r0 : BitVec 1 := Scalar.cmpi .eq c32_i32_1159_r0 c0_i32_1160_r0
  let c1_i32_1161_r0 : BitVec 32 := 1#32
  let v1279_r0 : BitVec 32 := Scalar.select v1278_r0 c1_i32_1161_r0 c32_i32_1159_r0
  let v1280_r0 : BitVec 32 := Scalar.remsi v1277_r0 v1279_r0
  let c0_i32_1163_r0 : BitVec 32 := 0#32
  let v1282_r0 : BitVec 1 := Scalar.cmpi .slt v1280_r0 c0_i32_1163_r0
  let c0_i32_1164_r0 : BitVec 32 := 0#32
  let v1283_r0 : BitVec 1 := Scalar.cmpi .slt v1279_r0 c0_i32_1164_r0
  let v1284_r0 : BitVec 1 := Scalar.xori v1282_r0 v1283_r0
  let c0_i32_1162_r0 : BitVec 32 := 0#32
  let v1281_r0 : BitVec 1 := Scalar.cmpi .ne v1280_r0 c0_i32_1162_r0
  let v1285_r0 : BitVec 1 := Scalar.andi v1284_r0 v1281_r0
  let v1286_r0 : BitVec 32 := Scalar.addi v1280_r0 v1279_r0
  let v1287_r0 : BitVec 32 := Scalar.select v1285_r0 v1286_r0 v1280_r0
  let c1_i32_1166_r0 : BitVec 32 := 1#32
  let v1288_r0 : BitVec 32 := Scalar.muli v1287_r0 c1_i32_1166_r0
  let v1289_r0 : BitVec 32 := Scalar.addi c0_i32_1167_r0 v1288_r0
  v1289_r0.toNat
def k0_dev76 (d0 : Dev nD) : Nat :=
  let c0_i32_1177_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1168_r0 : BitVec 32 := 14#32
  let v1290_r0 : BitVec 32 := Scalar.addi v2 c14_i32_1168_r0
  let c32_i32_1169_r0 : BitVec 32 := 32#32
  let c0_i32_1170_r0 : BitVec 32 := 0#32
  let v1291_r0 : BitVec 1 := Scalar.cmpi .eq c32_i32_1169_r0 c0_i32_1170_r0
  let c1_i32_1171_r0 : BitVec 32 := 1#32
  let v1292_r0 : BitVec 32 := Scalar.select v1291_r0 c1_i32_1171_r0 c32_i32_1169_r0
  let v1293_r0 : BitVec 32 := Scalar.remsi v1290_r0 v1292_r0
  let c0_i32_1173_r0 : BitVec 32 := 0#32
  let v1295_r0 : BitVec 1 := Scalar.cmpi .slt v1293_r0 c0_i32_1173_r0
  let c0_i32_1174_r0 : BitVec 32 := 0#32
  let v1296_r0 : BitVec 1 := Scalar.cmpi .slt v1292_r0 c0_i32_1174_r0
  let v1297_r0 : BitVec 1 := Scalar.xori v1295_r0 v1296_r0
  let c0_i32_1172_r0 : BitVec 32 := 0#32
  let v1294_r0 : BitVec 1 := Scalar.cmpi .ne v1293_r0 c0_i32_1172_r0
  let v1298_r0 : BitVec 1 := Scalar.andi v1297_r0 v1294_r0
  let v1299_r0 : BitVec 32 := Scalar.addi v1293_r0 v1292_r0
  let v1300_r0 : BitVec 32 := Scalar.select v1298_r0 v1299_r0 v1293_r0
  let c1_i32_1176_r0 : BitVec 32 := 1#32
  let v1301_r0 : BitVec 32 := Scalar.muli v1300_r0 c1_i32_1176_r0
  let v1302_r0 : BitVec 32 := Scalar.addi c0_i32_1177_r0 v1301_r0
  v1302_r0.toNat
def k0_dev77 (d0 : Dev nD) : Nat :=
  let c0_i32_1187_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1178_r0 : BitVec 32 := 15#32
  let v1303_r0 : BitVec 32 := Scalar.addi v2 c15_i32_1178_r0
  let c32_i32_1179_r0 : BitVec 32 := 32#32
  let c0_i32_1180_r0 : BitVec 32 := 0#32
  let v1304_r0 : BitVec 1 := Scalar.cmpi .eq c32_i32_1179_r0 c0_i32_1180_r0
  let c1_i32_1181_r0 : BitVec 32 := 1#32
  let v1305_r0 : BitVec 32 := Scalar.select v1304_r0 c1_i32_1181_r0 c32_i32_1179_r0
  let v1306_r0 : BitVec 32 := Scalar.remsi v1303_r0 v1305_r0
  let c0_i32_1183_r0 : BitVec 32 := 0#32
  let v1308_r0 : BitVec 1 := Scalar.cmpi .slt v1306_r0 c0_i32_1183_r0
  let c0_i32_1184_r0 : BitVec 32 := 0#32
  let v1309_r0 : BitVec 1 := Scalar.cmpi .slt v1305_r0 c0_i32_1184_r0
  let v1310_r0 : BitVec 1 := Scalar.xori v1308_r0 v1309_r0
  let c0_i32_1182_r0 : BitVec 32 := 0#32
  let v1307_r0 : BitVec 1 := Scalar.cmpi .ne v1306_r0 c0_i32_1182_r0
  let v1311_r0 : BitVec 1 := Scalar.andi v1310_r0 v1307_r0
  let v1312_r0 : BitVec 32 := Scalar.addi v1306_r0 v1305_r0
  let v1313_r0 : BitVec 32 := Scalar.select v1311_r0 v1312_r0 v1306_r0
  let c1_i32_1186_r0 : BitVec 32 := 1#32
  let v1314_r0 : BitVec 32 := Scalar.muli v1313_r0 c1_i32_1186_r0
  let v1315_r0 : BitVec 32 := Scalar.addi c0_i32_1187_r0 v1314_r0
  v1315_r0.toNat
def k0_dev78 (d0 : Dev nD) : Nat :=
  let c0_i32_1197_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1188_r0 : BitVec 32 := 16#32
  let v1316_r0 : BitVec 32 := Scalar.addi v2 c16_i32_1188_r0
  let c32_i32_1189_r0 : BitVec 32 := 32#32
  let c0_i32_1190_r0 : BitVec 32 := 0#32
  let v1317_r0 : BitVec 1 := Scalar.cmpi .eq c32_i32_1189_r0 c0_i32_1190_r0
  let c1_i32_1191_r0 : BitVec 32 := 1#32
  let v1318_r0 : BitVec 32 := Scalar.select v1317_r0 c1_i32_1191_r0 c32_i32_1189_r0
  let v1319_r0 : BitVec 32 := Scalar.remsi v1316_r0 v1318_r0
  let c0_i32_1193_r0 : BitVec 32 := 0#32
  let v1321_r0 : BitVec 1 := Scalar.cmpi .slt v1319_r0 c0_i32_1193_r0
  let c0_i32_1194_r0 : BitVec 32 := 0#32
  let v1322_r0 : BitVec 1 := Scalar.cmpi .slt v1318_r0 c0_i32_1194_r0
  let v1323_r0 : BitVec 1 := Scalar.xori v1321_r0 v1322_r0
  let c0_i32_1192_r0 : BitVec 32 := 0#32
  let v1320_r0 : BitVec 1 := Scalar.cmpi .ne v1319_r0 c0_i32_1192_r0
  let v1324_r0 : BitVec 1 := Scalar.andi v1323_r0 v1320_r0
  let v1325_r0 : BitVec 32 := Scalar.addi v1319_r0 v1318_r0
  let v1326_r0 : BitVec 32 := Scalar.select v1324_r0 v1325_r0 v1319_r0
  let c1_i32_1196_r0 : BitVec 32 := 1#32
  let v1327_r0 : BitVec 32 := Scalar.muli v1326_r0 c1_i32_1196_r0
  let v1328_r0 : BitVec 32 := Scalar.addi c0_i32_1197_r0 v1327_r0
  v1328_r0.toNat
def k0_dev79 (d0 : Dev nD) : Nat :=
  let c0_i32_1207_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1198_r0 : BitVec 32 := 17#32
  let v1329_r0 : BitVec 32 := Scalar.addi v2 c17_i32_1198_r0
  let c32_i32_1199_r0 : BitVec 32 := 32#32
  let c0_i32_1200_r0 : BitVec 32 := 0#32
  let v1330_r0 : BitVec 1 := Scalar.cmpi .eq c32_i32_1199_r0 c0_i32_1200_r0
  let c1_i32_1201_r0 : BitVec 32 := 1#32
  let v1331_r0 : BitVec 32 := Scalar.select v1330_r0 c1_i32_1201_r0 c32_i32_1199_r0
  let v1332_r0 : BitVec 32 := Scalar.remsi v1329_r0 v1331_r0
  let c0_i32_1203_r0 : BitVec 32 := 0#32
  let v1334_r0 : BitVec 1 := Scalar.cmpi .slt v1332_r0 c0_i32_1203_r0
  let c0_i32_1204_r0 : BitVec 32 := 0#32
  let v1335_r0 : BitVec 1 := Scalar.cmpi .slt v1331_r0 c0_i32_1204_r0
  let v1336_r0 : BitVec 1 := Scalar.xori v1334_r0 v1335_r0
  let c0_i32_1202_r0 : BitVec 32 := 0#32
  let v1333_r0 : BitVec 1 := Scalar.cmpi .ne v1332_r0 c0_i32_1202_r0
  let v1337_r0 : BitVec 1 := Scalar.andi v1336_r0 v1333_r0
  let v1338_r0 : BitVec 32 := Scalar.addi v1332_r0 v1331_r0
  let v1339_r0 : BitVec 32 := Scalar.select v1337_r0 v1338_r0 v1332_r0
  let c1_i32_1206_r0 : BitVec 32 := 1#32
  let v1340_r0 : BitVec 32 := Scalar.muli v1339_r0 c1_i32_1206_r0
  let v1341_r0 : BitVec 32 := Scalar.addi c0_i32_1207_r0 v1340_r0
  v1341_r0.toNat
def k0_dev80 (d0 : Dev nD) : Nat :=
  let c0_i32_1217_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1208_r0 : BitVec 32 := 18#32
  let v1342_r0 : BitVec 32 := Scalar.addi v2 c18_i32_1208_r0
  let c32_i32_1209_r0 : BitVec 32 := 32#32
  let c0_i32_1210_r0 : BitVec 32 := 0#32
  let v1343_r0 : BitVec 1 := Scalar.cmpi .eq c32_i32_1209_r0 c0_i32_1210_r0
  let c1_i32_1211_r0 : BitVec 32 := 1#32
  let v1344_r0 : BitVec 32 := Scalar.select v1343_r0 c1_i32_1211_r0 c32_i32_1209_r0
  let v1345_r0 : BitVec 32 := Scalar.remsi v1342_r0 v1344_r0
  let c0_i32_1213_r0 : BitVec 32 := 0#32
  let v1347_r0 : BitVec 1 := Scalar.cmpi .slt v1345_r0 c0_i32_1213_r0
  let c0_i32_1214_r0 : BitVec 32 := 0#32
  let v1348_r0 : BitVec 1 := Scalar.cmpi .slt v1344_r0 c0_i32_1214_r0
  let v1349_r0 : BitVec 1 := Scalar.xori v1347_r0 v1348_r0
  let c0_i32_1212_r0 : BitVec 32 := 0#32
  let v1346_r0 : BitVec 1 := Scalar.cmpi .ne v1345_r0 c0_i32_1212_r0
  let v1350_r0 : BitVec 1 := Scalar.andi v1349_r0 v1346_r0
  let v1351_r0 : BitVec 32 := Scalar.addi v1345_r0 v1344_r0
  let v1352_r0 : BitVec 32 := Scalar.select v1350_r0 v1351_r0 v1345_r0
  let c1_i32_1216_r0 : BitVec 32 := 1#32
  let v1353_r0 : BitVec 32 := Scalar.muli v1352_r0 c1_i32_1216_r0
  let v1354_r0 : BitVec 32 := Scalar.addi c0_i32_1217_r0 v1353_r0
  v1354_r0.toNat
def k0_dev81 (d0 : Dev nD) : Nat :=
  let c0_i32_1227_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1218_r0 : BitVec 32 := 19#32
  let v1355_r0 : BitVec 32 := Scalar.addi v2 c19_i32_1218_r0
  let c32_i32_1219_r0 : BitVec 32 := 32#32
  let c0_i32_1220_r0 : BitVec 32 := 0#32
  let v1356_r0 : BitVec 1 := Scalar.cmpi .eq c32_i32_1219_r0 c0_i32_1220_r0
  let c1_i32_1221_r0 : BitVec 32 := 1#32
  let v1357_r0 : BitVec 32 := Scalar.select v1356_r0 c1_i32_1221_r0 c32_i32_1219_r0
  let v1358_r0 : BitVec 32 := Scalar.remsi v1355_r0 v1357_r0
  let c0_i32_1223_r0 : BitVec 32 := 0#32
  let v1360_r0 : BitVec 1 := Scalar.cmpi .slt v1358_r0 c0_i32_1223_r0
  let c0_i32_1224_r0 : BitVec 32 := 0#32
  let v1361_r0 : BitVec 1 := Scalar.cmpi .slt v1357_r0 c0_i32_1224_r0
  let v1362_r0 : BitVec 1 := Scalar.xori v1360_r0 v1361_r0
  let c0_i32_1222_r0 : BitVec 32 := 0#32
  let v1359_r0 : BitVec 1 := Scalar.cmpi .ne v1358_r0 c0_i32_1222_r0
  let v1363_r0 : BitVec 1 := Scalar.andi v1362_r0 v1359_r0
  let v1364_r0 : BitVec 32 := Scalar.addi v1358_r0 v1357_r0
  let v1365_r0 : BitVec 32 := Scalar.select v1363_r0 v1364_r0 v1358_r0
  let c1_i32_1226_r0 : BitVec 32 := 1#32
  let v1366_r0 : BitVec 32 := Scalar.muli v1365_r0 c1_i32_1226_r0
  let v1367_r0 : BitVec 32 := Scalar.addi c0_i32_1227_r0 v1366_r0
  v1367_r0.toNat
def k0_dev82 (d0 : Dev nD) : Nat :=
  let c0_i32_1237_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1228_r0 : BitVec 32 := 20#32
  let v1368_r0 : BitVec 32 := Scalar.addi v2 c20_i32_1228_r0
  let c32_i32_1229_r0 : BitVec 32 := 32#32
  let c0_i32_1230_r0 : BitVec 32 := 0#32
  let v1369_r0 : BitVec 1 := Scalar.cmpi .eq c32_i32_1229_r0 c0_i32_1230_r0
  let c1_i32_1231_r0 : BitVec 32 := 1#32
  let v1370_r0 : BitVec 32 := Scalar.select v1369_r0 c1_i32_1231_r0 c32_i32_1229_r0
  let v1371_r0 : BitVec 32 := Scalar.remsi v1368_r0 v1370_r0
  let c0_i32_1233_r0 : BitVec 32 := 0#32
  let v1373_r0 : BitVec 1 := Scalar.cmpi .slt v1371_r0 c0_i32_1233_r0
  let c0_i32_1234_r0 : BitVec 32 := 0#32
  let v1374_r0 : BitVec 1 := Scalar.cmpi .slt v1370_r0 c0_i32_1234_r0
  let v1375_r0 : BitVec 1 := Scalar.xori v1373_r0 v1374_r0
  let c0_i32_1232_r0 : BitVec 32 := 0#32
  let v1372_r0 : BitVec 1 := Scalar.cmpi .ne v1371_r0 c0_i32_1232_r0
  let v1376_r0 : BitVec 1 := Scalar.andi v1375_r0 v1372_r0
  let v1377_r0 : BitVec 32 := Scalar.addi v1371_r0 v1370_r0
  let v1378_r0 : BitVec 32 := Scalar.select v1376_r0 v1377_r0 v1371_r0
  let c1_i32_1236_r0 : BitVec 32 := 1#32
  let v1379_r0 : BitVec 32 := Scalar.muli v1378_r0 c1_i32_1236_r0
  let v1380_r0 : BitVec 32 := Scalar.addi c0_i32_1237_r0 v1379_r0
  v1380_r0.toNat
def k0_dev83 (d0 : Dev nD) : Nat :=
  let c0_i32_1247_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1238_r0 : BitVec 32 := 21#32
  let v1381_r0 : BitVec 32 := Scalar.addi v2 c21_i32_1238_r0
  let c32_i32_1239_r0 : BitVec 32 := 32#32
  let c0_i32_1240_r0 : BitVec 32 := 0#32
  let v1382_r0 : BitVec 1 := Scalar.cmpi .eq c32_i32_1239_r0 c0_i32_1240_r0
  let c1_i32_1241_r0 : BitVec 32 := 1#32
  let v1383_r0 : BitVec 32 := Scalar.select v1382_r0 c1_i32_1241_r0 c32_i32_1239_r0
  let v1384_r0 : BitVec 32 := Scalar.remsi v1381_r0 v1383_r0
  let c0_i32_1243_r0 : BitVec 32 := 0#32
  let v1386_r0 : BitVec 1 := Scalar.cmpi .slt v1384_r0 c0_i32_1243_r0
  let c0_i32_1244_r0 : BitVec 32 := 0#32
  let v1387_r0 : BitVec 1 := Scalar.cmpi .slt v1383_r0 c0_i32_1244_r0
  let v1388_r0 : BitVec 1 := Scalar.xori v1386_r0 v1387_r0
  let c0_i32_1242_r0 : BitVec 32 := 0#32
  let v1385_r0 : BitVec 1 := Scalar.cmpi .ne v1384_r0 c0_i32_1242_r0
  let v1389_r0 : BitVec 1 := Scalar.andi v1388_r0 v1385_r0
  let v1390_r0 : BitVec 32 := Scalar.addi v1384_r0 v1383_r0
  let v1391_r0 : BitVec 32 := Scalar.select v1389_r0 v1390_r0 v1384_r0
  let c1_i32_1246_r0 : BitVec 32 := 1#32
  let v1392_r0 : BitVec 32 := Scalar.muli v1391_r0 c1_i32_1246_r0
  let v1393_r0 : BitVec 32 := Scalar.addi c0_i32_1247_r0 v1392_r0
  v1393_r0.toNat
def k0_dev84 (d0 : Dev nD) : Nat :=
  let c0_i32_1257_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1248_r0 : BitVec 32 := 22#32
  let v1394_r0 : BitVec 32 := Scalar.addi v2 c22_i32_1248_r0
  let c32_i32_1249_r0 : BitVec 32 := 32#32
  let c0_i32_1250_r0 : BitVec 32 := 0#32
  let v1395_r0 : BitVec 1 := Scalar.cmpi .eq c32_i32_1249_r0 c0_i32_1250_r0
  let c1_i32_1251_r0 : BitVec 32 := 1#32
  let v1396_r0 : BitVec 32 := Scalar.select v1395_r0 c1_i32_1251_r0 c32_i32_1249_r0
  let v1397_r0 : BitVec 32 := Scalar.remsi v1394_r0 v1396_r0
  let c0_i32_1253_r0 : BitVec 32 := 0#32
  let v1399_r0 : BitVec 1 := Scalar.cmpi .slt v1397_r0 c0_i32_1253_r0
  let c0_i32_1254_r0 : BitVec 32 := 0#32
  let v1400_r0 : BitVec 1 := Scalar.cmpi .slt v1396_r0 c0_i32_1254_r0
  let v1401_r0 : BitVec 1 := Scalar.xori v1399_r0 v1400_r0
  let c0_i32_1252_r0 : BitVec 32 := 0#32
  let v1398_r0 : BitVec 1 := Scalar.cmpi .ne v1397_r0 c0_i32_1252_r0
  let v1402_r0 : BitVec 1 := Scalar.andi v1401_r0 v1398_r0
  let v1403_r0 : BitVec 32 := Scalar.addi v1397_r0 v1396_r0
  let v1404_r0 : BitVec 32 := Scalar.select v1402_r0 v1403_r0 v1397_r0
  let c1_i32_1256_r0 : BitVec 32 := 1#32
  let v1405_r0 : BitVec 32 := Scalar.muli v1404_r0 c1_i32_1256_r0
  let v1406_r0 : BitVec 32 := Scalar.addi c0_i32_1257_r0 v1405_r0
  v1406_r0.toNat
def k0_dev85 (d0 : Dev nD) : Nat :=
  let c0_i32_1267_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1258_r0 : BitVec 32 := 23#32
  let v1407_r0 : BitVec 32 := Scalar.addi v2 c23_i32_1258_r0
  let c32_i32_1259_r0 : BitVec 32 := 32#32
  let c0_i32_1260_r0 : BitVec 32 := 0#32
  let v1408_r0 : BitVec 1 := Scalar.cmpi .eq c32_i32_1259_r0 c0_i32_1260_r0
  let c1_i32_1261_r0 : BitVec 32 := 1#32
  let v1409_r0 : BitVec 32 := Scalar.select v1408_r0 c1_i32_1261_r0 c32_i32_1259_r0
  let v1410_r0 : BitVec 32 := Scalar.remsi v1407_r0 v1409_r0
  let c0_i32_1263_r0 : BitVec 32 := 0#32
  let v1412_r0 : BitVec 1 := Scalar.cmpi .slt v1410_r0 c0_i32_1263_r0
  let c0_i32_1264_r0 : BitVec 32 := 0#32
  let v1413_r0 : BitVec 1 := Scalar.cmpi .slt v1409_r0 c0_i32_1264_r0
  let v1414_r0 : BitVec 1 := Scalar.xori v1412_r0 v1413_r0
  let c0_i32_1262_r0 : BitVec 32 := 0#32
  let v1411_r0 : BitVec 1 := Scalar.cmpi .ne v1410_r0 c0_i32_1262_r0
  let v1415_r0 : BitVec 1 := Scalar.andi v1414_r0 v1411_r0
  let v1416_r0 : BitVec 32 := Scalar.addi v1410_r0 v1409_r0
  let v1417_r0 : BitVec 32 := Scalar.select v1415_r0 v1416_r0 v1410_r0
  let c1_i32_1266_r0 : BitVec 32 := 1#32
  let v1418_r0 : BitVec 32 := Scalar.muli v1417_r0 c1_i32_1266_r0
  let v1419_r0 : BitVec 32 := Scalar.addi c0_i32_1267_r0 v1418_r0
  v1419_r0.toNat
def k0_dev86 (d0 : Dev nD) : Nat :=
  let c0_i32_1277_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1268_r0 : BitVec 32 := 24#32
  let v1420_r0 : BitVec 32 := Scalar.addi v2 c24_i32_1268_r0
  let c32_i32_1269_r0 : BitVec 32 := 32#32
  let c0_i32_1270_r0 : BitVec 32 := 0#32
  let v1421_r0 : BitVec 1 := Scalar.cmpi .eq c32_i32_1269_r0 c0_i32_1270_r0
  let c1_i32_1271_r0 : BitVec 32 := 1#32
  let v1422_r0 : BitVec 32 := Scalar.select v1421_r0 c1_i32_1271_r0 c32_i32_1269_r0
  let v1423_r0 : BitVec 32 := Scalar.remsi v1420_r0 v1422_r0
  let c0_i32_1273_r0 : BitVec 32 := 0#32
  let v1425_r0 : BitVec 1 := Scalar.cmpi .slt v1423_r0 c0_i32_1273_r0
  let c0_i32_1274_r0 : BitVec 32 := 0#32
  let v1426_r0 : BitVec 1 := Scalar.cmpi .slt v1422_r0 c0_i32_1274_r0
  let v1427_r0 : BitVec 1 := Scalar.xori v1425_r0 v1426_r0
  let c0_i32_1272_r0 : BitVec 32 := 0#32
  let v1424_r0 : BitVec 1 := Scalar.cmpi .ne v1423_r0 c0_i32_1272_r0
  let v1428_r0 : BitVec 1 := Scalar.andi v1427_r0 v1424_r0
  let v1429_r0 : BitVec 32 := Scalar.addi v1423_r0 v1422_r0
  let v1430_r0 : BitVec 32 := Scalar.select v1428_r0 v1429_r0 v1423_r0
  let c1_i32_1276_r0 : BitVec 32 := 1#32
  let v1431_r0 : BitVec 32 := Scalar.muli v1430_r0 c1_i32_1276_r0
  let v1432_r0 : BitVec 32 := Scalar.addi c0_i32_1277_r0 v1431_r0
  v1432_r0.toNat
def k0_dev87 (d0 : Dev nD) : Nat :=
  let c0_i32_1287_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1278_r0 : BitVec 32 := 25#32
  let v1433_r0 : BitVec 32 := Scalar.addi v2 c25_i32_1278_r0
  let c32_i32_1279_r0 : BitVec 32 := 32#32
  let c0_i32_1280_r0 : BitVec 32 := 0#32
  let v1434_r0 : BitVec 1 := Scalar.cmpi .eq c32_i32_1279_r0 c0_i32_1280_r0
  let c1_i32_1281_r0 : BitVec 32 := 1#32
  let v1435_r0 : BitVec 32 := Scalar.select v1434_r0 c1_i32_1281_r0 c32_i32_1279_r0
  let v1436_r0 : BitVec 32 := Scalar.remsi v1433_r0 v1435_r0
  let c0_i32_1283_r0 : BitVec 32 := 0#32
  let v1438_r0 : BitVec 1 := Scalar.cmpi .slt v1436_r0 c0_i32_1283_r0
  let c0_i32_1284_r0 : BitVec 32 := 0#32
  let v1439_r0 : BitVec 1 := Scalar.cmpi .slt v1435_r0 c0_i32_1284_r0
  let v1440_r0 : BitVec 1 := Scalar.xori v1438_r0 v1439_r0
  let c0_i32_1282_r0 : BitVec 32 := 0#32
  let v1437_r0 : BitVec 1 := Scalar.cmpi .ne v1436_r0 c0_i32_1282_r0
  let v1441_r0 : BitVec 1 := Scalar.andi v1440_r0 v1437_r0
  let v1442_r0 : BitVec 32 := Scalar.addi v1436_r0 v1435_r0
  let v1443_r0 : BitVec 32 := Scalar.select v1441_r0 v1442_r0 v1436_r0
  let c1_i32_1286_r0 : BitVec 32 := 1#32
  let v1444_r0 : BitVec 32 := Scalar.muli v1443_r0 c1_i32_1286_r0
  let v1445_r0 : BitVec 32 := Scalar.addi c0_i32_1287_r0 v1444_r0
  v1445_r0.toNat
def k0_dev88 (d0 : Dev nD) : Nat :=
  let c0_i32_1297_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1288_r0 : BitVec 32 := 26#32
  let v1446_r0 : BitVec 32 := Scalar.addi v2 c26_i32_1288_r0
  let c32_i32_1289_r0 : BitVec 32 := 32#32
  let c0_i32_1290_r0 : BitVec 32 := 0#32
  let v1447_r0 : BitVec 1 := Scalar.cmpi .eq c32_i32_1289_r0 c0_i32_1290_r0
  let c1_i32_1291_r0 : BitVec 32 := 1#32
  let v1448_r0 : BitVec 32 := Scalar.select v1447_r0 c1_i32_1291_r0 c32_i32_1289_r0
  let v1449_r0 : BitVec 32 := Scalar.remsi v1446_r0 v1448_r0
  let c0_i32_1293_r0 : BitVec 32 := 0#32
  let v1451_r0 : BitVec 1 := Scalar.cmpi .slt v1449_r0 c0_i32_1293_r0
  let c0_i32_1294_r0 : BitVec 32 := 0#32
  let v1452_r0 : BitVec 1 := Scalar.cmpi .slt v1448_r0 c0_i32_1294_r0
  let v1453_r0 : BitVec 1 := Scalar.xori v1451_r0 v1452_r0
  let c0_i32_1292_r0 : BitVec 32 := 0#32
  let v1450_r0 : BitVec 1 := Scalar.cmpi .ne v1449_r0 c0_i32_1292_r0
  let v1454_r0 : BitVec 1 := Scalar.andi v1453_r0 v1450_r0
  let v1455_r0 : BitVec 32 := Scalar.addi v1449_r0 v1448_r0
  let v1456_r0 : BitVec 32 := Scalar.select v1454_r0 v1455_r0 v1449_r0
  let c1_i32_1296_r0 : BitVec 32 := 1#32
  let v1457_r0 : BitVec 32 := Scalar.muli v1456_r0 c1_i32_1296_r0
  let v1458_r0 : BitVec 32 := Scalar.addi c0_i32_1297_r0 v1457_r0
  v1458_r0.toNat
def k0_dev89 (d0 : Dev nD) : Nat :=
  let c0_i32_1307_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1298_r0 : BitVec 32 := 27#32
  let v1459_r0 : BitVec 32 := Scalar.addi v2 c27_i32_1298_r0
  let c32_i32_1299_r0 : BitVec 32 := 32#32
  let c0_i32_1300_r0 : BitVec 32 := 0#32
  let v1460_r0 : BitVec 1 := Scalar.cmpi .eq c32_i32_1299_r0 c0_i32_1300_r0
  let c1_i32_1301_r0 : BitVec 32 := 1#32
  let v1461_r0 : BitVec 32 := Scalar.select v1460_r0 c1_i32_1301_r0 c32_i32_1299_r0
  let v1462_r0 : BitVec 32 := Scalar.remsi v1459_r0 v1461_r0
  let c0_i32_1303_r0 : BitVec 32 := 0#32
  let v1464_r0 : BitVec 1 := Scalar.cmpi .slt v1462_r0 c0_i32_1303_r0
  let c0_i32_1304_r0 : BitVec 32 := 0#32
  let v1465_r0 : BitVec 1 := Scalar.cmpi .slt v1461_r0 c0_i32_1304_r0
  let v1466_r0 : BitVec 1 := Scalar.xori v1464_r0 v1465_r0
  let c0_i32_1302_r0 : BitVec 32 := 0#32
  let v1463_r0 : BitVec 1 := Scalar.cmpi .ne v1462_r0 c0_i32_1302_r0
  let v1467_r0 : BitVec 1 := Scalar.andi v1466_r0 v1463_r0
  let v1468_r0 : BitVec 32 := Scalar.addi v1462_r0 v1461_r0
  let v1469_r0 : BitVec 32 := Scalar.select v1467_r0 v1468_r0 v1462_r0
  let c1_i32_1306_r0 : BitVec 32 := 1#32
  let v1470_r0 : BitVec 32 := Scalar.muli v1469_r0 c1_i32_1306_r0
  let v1471_r0 : BitVec 32 := Scalar.addi c0_i32_1307_r0 v1470_r0
  v1471_r0.toNat
def k0_dev90 (d0 : Dev nD) : Nat :=
  let c0_i32_1317_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1308_r0 : BitVec 32 := 28#32
  let v1472_r0 : BitVec 32 := Scalar.addi v2 c28_i32_1308_r0
  let c32_i32_1309_r0 : BitVec 32 := 32#32
  let c0_i32_1310_r0 : BitVec 32 := 0#32
  let v1473_r0 : BitVec 1 := Scalar.cmpi .eq c32_i32_1309_r0 c0_i32_1310_r0
  let c1_i32_1311_r0 : BitVec 32 := 1#32
  let v1474_r0 : BitVec 32 := Scalar.select v1473_r0 c1_i32_1311_r0 c32_i32_1309_r0
  let v1475_r0 : BitVec 32 := Scalar.remsi v1472_r0 v1474_r0
  let c0_i32_1313_r0 : BitVec 32 := 0#32
  let v1477_r0 : BitVec 1 := Scalar.cmpi .slt v1475_r0 c0_i32_1313_r0
  let c0_i32_1314_r0 : BitVec 32 := 0#32
  let v1478_r0 : BitVec 1 := Scalar.cmpi .slt v1474_r0 c0_i32_1314_r0
  let v1479_r0 : BitVec 1 := Scalar.xori v1477_r0 v1478_r0
  let c0_i32_1312_r0 : BitVec 32 := 0#32
  let v1476_r0 : BitVec 1 := Scalar.cmpi .ne v1475_r0 c0_i32_1312_r0
  let v1480_r0 : BitVec 1 := Scalar.andi v1479_r0 v1476_r0
  let v1481_r0 : BitVec 32 := Scalar.addi v1475_r0 v1474_r0
  let v1482_r0 : BitVec 32 := Scalar.select v1480_r0 v1481_r0 v1475_r0
  let c1_i32_1316_r0 : BitVec 32 := 1#32
  let v1483_r0 : BitVec 32 := Scalar.muli v1482_r0 c1_i32_1316_r0
  let v1484_r0 : BitVec 32 := Scalar.addi c0_i32_1317_r0 v1483_r0
  v1484_r0.toNat
def k0_dev91 (d0 : Dev nD) : Nat :=
  let c0_i32_1327_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1318_r0 : BitVec 32 := 29#32
  let v1485_r0 : BitVec 32 := Scalar.addi v2 c29_i32_1318_r0
  let c32_i32_1319_r0 : BitVec 32 := 32#32
  let c0_i32_1320_r0 : BitVec 32 := 0#32
  let v1486_r0 : BitVec 1 := Scalar.cmpi .eq c32_i32_1319_r0 c0_i32_1320_r0
  let c1_i32_1321_r0 : BitVec 32 := 1#32
  let v1487_r0 : BitVec 32 := Scalar.select v1486_r0 c1_i32_1321_r0 c32_i32_1319_r0
  let v1488_r0 : BitVec 32 := Scalar.remsi v1485_r0 v1487_r0
  let c0_i32_1323_r0 : BitVec 32 := 0#32
  let v1490_r0 : BitVec 1 := Scalar.cmpi .slt v1488_r0 c0_i32_1323_r0
  let c0_i32_1324_r0 : BitVec 32 := 0#32
  let v1491_r0 : BitVec 1 := Scalar.cmpi .slt v1487_r0 c0_i32_1324_r0
  let v1492_r0 : BitVec 1 := Scalar.xori v1490_r0 v1491_r0
  let c0_i32_1322_r0 : BitVec 32 := 0#32
  let v1489_r0 : BitVec 1 := Scalar.cmpi .ne v1488_r0 c0_i32_1322_r0
  let v1493_r0 : BitVec 1 := Scalar.andi v1492_r0 v1489_r0
  let v1494_r0 : BitVec 32 := Scalar.addi v1488_r0 v1487_r0
  let v1495_r0 : BitVec 32 := Scalar.select v1493_r0 v1494_r0 v1488_r0
  let c1_i32_1326_r0 : BitVec 32 := 1#32
  let v1496_r0 : BitVec 32 := Scalar.muli v1495_r0 c1_i32_1326_r0
  let v1497_r0 : BitVec 32 := Scalar.addi c0_i32_1327_r0 v1496_r0
  v1497_r0.toNat
def k0_dev92 (d0 : Dev nD) : Nat :=
  let c0_i32_1337_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1328_r0 : BitVec 32 := 30#32
  let v1498_r0 : BitVec 32 := Scalar.addi v2 c30_i32_1328_r0
  let c32_i32_1329_r0 : BitVec 32 := 32#32
  let c0_i32_1330_r0 : BitVec 32 := 0#32
  let v1499_r0 : BitVec 1 := Scalar.cmpi .eq c32_i32_1329_r0 c0_i32_1330_r0
  let c1_i32_1331_r0 : BitVec 32 := 1#32
  let v1500_r0 : BitVec 32 := Scalar.select v1499_r0 c1_i32_1331_r0 c32_i32_1329_r0
  let v1501_r0 : BitVec 32 := Scalar.remsi v1498_r0 v1500_r0
  let c0_i32_1333_r0 : BitVec 32 := 0#32
  let v1503_r0 : BitVec 1 := Scalar.cmpi .slt v1501_r0 c0_i32_1333_r0
  let c0_i32_1334_r0 : BitVec 32 := 0#32
  let v1504_r0 : BitVec 1 := Scalar.cmpi .slt v1500_r0 c0_i32_1334_r0
  let v1505_r0 : BitVec 1 := Scalar.xori v1503_r0 v1504_r0
  let c0_i32_1332_r0 : BitVec 32 := 0#32
  let v1502_r0 : BitVec 1 := Scalar.cmpi .ne v1501_r0 c0_i32_1332_r0
  let v1506_r0 : BitVec 1 := Scalar.andi v1505_r0 v1502_r0
  let v1507_r0 : BitVec 32 := Scalar.addi v1501_r0 v1500_r0
  let v1508_r0 : BitVec 32 := Scalar.select v1506_r0 v1507_r0 v1501_r0
  let c1_i32_1336_r0 : BitVec 32 := 1#32
  let v1509_r0 : BitVec 32 := Scalar.muli v1508_r0 c1_i32_1336_r0
  let v1510_r0 : BitVec 32 := Scalar.addi c0_i32_1337_r0 v1509_r0
  v1510_r0.toNat
def k0_dev93 (d0 : Dev nD) : Nat :=
  let c0_i32_1347_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1338_r0 : BitVec 32 := 31#32
  let v1511_r0 : BitVec 32 := Scalar.addi v2 c31_i32_1338_r0
  let c32_i32_1339_r0 : BitVec 32 := 32#32
  let c0_i32_1340_r0 : BitVec 32 := 0#32
  let v1512_r0 : BitVec 1 := Scalar.cmpi .eq c32_i32_1339_r0 c0_i32_1340_r0
  let c1_i32_1341_r0 : BitVec 32 := 1#32
  let v1513_r0 : BitVec 32 := Scalar.select v1512_r0 c1_i32_1341_r0 c32_i32_1339_r0
  let v1514_r0 : BitVec 32 := Scalar.remsi v1511_r0 v1513_r0
  let c0_i32_1343_r0 : BitVec 32 := 0#32
  let v1516_r0 : BitVec 1 := Scalar.cmpi .slt v1514_r0 c0_i32_1343_r0
  let c0_i32_1344_r0 : BitVec 32 := 0#32
  let v1517_r0 : BitVec 1 := Scalar.cmpi .slt v1513_r0 c0_i32_1344_r0
  let v1518_r0 : BitVec 1 := Scalar.xori v1516_r0 v1517_r0
  let c0_i32_1342_r0 : BitVec 32 := 0#32
  let v1515_r0 : BitVec 1 := Scalar.cmpi .ne v1514_r0 c0_i32_1342_r0
  let v1519_r0 : BitVec 1 := Scalar.andi v1518_r0 v1515_r0
  let v1520_r0 : BitVec 32 := Scalar.addi v1514_r0 v1513_r0
  let v1521_r0 : BitVec 32 := Scalar.select v1519_r0 v1520_r0 v1514_r0
  let c1_i32_1346_r0 : BitVec 32 := 1#32
  let v1522_r0 : BitVec 32 := Scalar.muli v1521_r0 c1_i32_1346_r0
  let v1523_r0 : BitVec 32 := Scalar.addi c0_i32_1347_r0 v1522_r0
  v1523_r0.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x512 : Shape := ⟨2, ![32768, 512]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S_, .f32⟩
  | .hbm, ⟨2, _⟩ => ⟨S_, .f32⟩
  | .hbm, ⟨3, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Protocol.lean ====
/-
The protocol of the prefix-sum kernel on its 32 devices, stated once for any float values.

Every device `c` owns four sorts of semaphore cell: the runtime's barrier cell, the second barrier's cell, one send
cell per offset and one receive cell per offset. In the first handshake every device signals the 31 others; the signal
that device `c + e` gives device `c` carries slot `e` of the receive buffer of device `c + e`, when `c + e` is still a
device (`c + e < 32`), because it is into that slot that `c` will copy its column sums. Each copy then pays two cells:
the send cell of the sender (returning the share of the source that was lent) and the receive cell of the target (the
slot, now holding the sender's column sums). The second barrier hands over nothing.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Duties are named by offsets. -/
abbrev UB : Type := URounds (GSem nD τ sig) (Fin 32)
/-- The ghost state: the pipeline's part and this protocol's. -/
abbrev UU : Type := UR sig nD τ × UB

local notation "𝕄" => MT nD τ sig Unit (Elt F) ℕ UU ℕ

/-- The pipeline's part of the ghost state. -/
abbrev EP : Emb (UR sig nD τ) (MT nD τ sig Unit (Elt F) ℕ UU ℕ) := embL
/-- This protocol's part of the ghost state. -/
abbrev ER : Emb UB (MT nD τ sig Unit (Elt F) ℕ UU ℕ) := embR

/-! ## Devices and offsets -/

set_option backward.proofsInPublic true in
/-- The device `d` places after `c`, around the ring. -/
def fwd (c : Dev nD) (d : Fin 32) : Dev nD := ⟨(c.val + d.val) % 32, Nat.mod_lt _ (by decide)⟩

set_option backward.proofsInPublic true in
/-- The offset that leads back. -/
def opp (d : Fin 32) : Fin 32 := ⟨(32 - d.val) % 32, Nat.mod_lt _ (by decide)⟩

/-- The place of the device `d` after `c`. -/
theorem fwd_val (c : Dev nD) (d : Fin 32) : (fwd c d).val = (c.val + d.val) % 32 := rfl
/-- The number of the offset that leads back. -/
theorem opp_val (d : Fin 32) : (opp d).val = (32 - d.val) % 32 := rfl
/-- There are 32 devices. -/
theorem dev_lt (c : Dev nD) : c.val < 32 := c.isLt

/-- The way back of the way back is the way. -/
theorem opp_opp (d : Fin 32) : opp (opp d) = d := by
  apply Fin.ext; have := d.isLt; simp only [opp_val]; omega
/-- Going `d` forward and then back is standing still. -/
theorem fwd_opp (c : Dev nD) (d : Fin 32) : fwd (fwd c d) (opp d) = c := by
  apply Fin.ext; have := d.isLt; have := dev_lt c; simp only [fwd_val, opp_val]; omega
/-- Going back and then `d` forward is standing still. -/
theorem opp_fwd (c : Dev nD) (d : Fin 32) : fwd (fwd c (opp d)) d = c := by
  apply Fin.ext; have := d.isLt; have := dev_lt c; simp only [fwd_val, opp_val]; omega
/-- Two devices with the same `d`-th successor are one. -/
theorem fwd_inj {c c' : Dev nD} {d : Fin 32} (h : fwd c d = fwd c' d) : c = c' := by
  rw [← fwd_opp c d, h, fwd_opp]

/-- The offsets from `n` on, and those from 1 to just below `n`. -/
def ups (n : ℕ) : Finset (Fin 32) := Finset.univ.filter fun d => n ≤ d.val
/-- The offsets already done when `n` is next. -/
def downs (n : ℕ) : Finset (Fin 32) := Finset.univ.filter fun d => 1 ≤ d.val ∧ d.val < n

/-- An offset is still to do at `n` when it is at least `n`. -/
theorem mem_ups {n : ℕ} {d : Fin 32} : d ∈ ups n ↔ n ≤ d.val := by simp [ups]
/-- An offset is done at `n` when it is nonzero and below `n`. -/
theorem mem_downs {n : ℕ} {d : Fin 32} : d ∈ downs n ↔ 1 ≤ d.val ∧ d.val < n := by simp [downs]

/-- The offsets still to do: the next one and the later ones. -/
theorem ups_peel (d : Fin 32) : ups d.val = insert d (ups (d.val + 1)) := by
  ext x; rw [Finset.mem_insert, mem_ups, mem_ups, Fin.ext_iff]; omega
/-- An offset isn't among the later ones. -/
theorem not_mem_ups (d : Fin 32) : d ∉ ups (d.val + 1) := by rw [mem_ups]; omega
/-- Doing one offset adds it to those that are done. -/
theorem downs_push (d : Fin 32) (h : 1 ≤ d.val) : downs (d.val + 1) = insert d (downs d.val) := by
  ext x; rw [Finset.mem_insert, mem_downs, mem_downs, Fin.ext_iff]; omega
/-- The next offset isn't done yet. -/
theorem not_mem_downs (d : Fin 32) : d ∉ downs d.val := by rw [mem_downs]; omega
/-- At 32 nothing is left to do. -/
theorem ups_end : ups 32 = ∅ := by ext x; rw [mem_ups]; have := x.isLt; simp
/-- At 1 nothing is done. -/
theorem downs_one : downs 1 = ∅ := by ext x; rw [mem_downs]; simp; omega
/-- At 32 every nonzero offset is done. -/
theorem downs_end : downs 32 = ups 1 := by ext x; rw [mem_downs, mem_ups]; have := x.isLt; omega
/-- All offsets: zero and the nonzero ones. -/
theorem univ_ups : (Finset.univ : Finset (Fin 32)) = insert 0 (ups 1) := by
  ext x; simp only [Finset.mem_univ, Finset.mem_insert, mem_ups, Fin.ext_iff, Fin.val_zero, true_iff]; omega
/-- Zero isn't a nonzero offset. -/
theorem zero_not_mem : (0 : Fin 32) ∉ ups 1 := by rw [mem_ups]; simp
/-- There are 31 nonzero offsets. -/
theorem card_ups : (ups 1).card = 31 := by decide
/-- The way back of a nonzero offset is nonzero. -/
theorem opp_mem {d : Fin 32} (h : d ∈ ups 1) : opp d ∈ ups 1 := by
  rw [mem_ups] at *; rw [opp_val]; have := d.isLt; omega

/-- The resources of the offsets to do: the next one's and the later ones'. -/
theorem sep_ups {M : Type} [URA M] (d : Fin 32) (Φ : Fin 32 → sProp M) :
    bigSep (ups d.val) Φ = iprop(Φ d ∗ bigSep (ups (d.val + 1)) Φ) := by
  rw [ups_peel, bigSep_insert (not_mem_ups d)]; rfl
/-- The resources of the offsets done, after one more of them. -/
theorem sep_downs {M : Type} [URA M] (d : Fin 32) (h : 1 ≤ d.val) (Φ : Fin 32 → sProp M) :
    bigSep (downs (d.val + 1)) Φ = iprop(Φ d ∗ bigSep (downs d.val) Φ) := by
  rw [downs_push d h, bigSep_insert (not_mem_downs d)]; rfl
/-- The resources of all offsets: those of zero and of the rest. -/
theorem sep_univ {M : Type} [URA M] (Φ : Fin 32 → sProp M) :
    bigSep Finset.univ Φ = iprop(Φ 0 ∗ bigSep (ups 1) Φ) := by
  rw [univ_ups, bigSep_insert zero_not_mem]; rfl
/-- A sum over the offsets to do, with the next one taken off. -/
theorem sum_ups {A : Type} [AddCommMonoid A] (d : Fin 32) (T : Fin 32 → A) :
    ∑ x ∈ ups d.val, T x = (∑ x ∈ ups (d.val + 1), T x) + T d := by
  rw [ups_peel, Finset.sum_insert (not_mem_ups d), add_comm]

/-! ## Buffers, slots and cells -/

/-- The staged argument block. -/
abbrev xM : Memref sig .tc .vmem S1024x512 .f32 := Memref.whole cc0_stg0_0
/-- The staged result block. -/
abbrev oM : Memref sig .tc .vmem S1024x512 .f32 := Memref.whole cc0_stg1_0
/-- The buffer of the column sums. -/
abbrev tM : Memref sig .tc .vmem S1x512 .f32 := Memref.whole cc0_scratch0
/-- The receive buffer. -/
abbrev cM : Memref sig .tc .vmem S32x1x512 .f32 := Memref.whole cc0_scratch1

/-- Slot `d` lies within the receive buffer. -/
theorem inbSlot (d : Fin 32) : ∀ a, (![d.val, 0, 0] : Fin 3 → ℕ) a + S1x1x512.size a ≤ S32x1x512.size a := by
  revert d; decide
/-- Entry `d` lies within an array of 32 semaphores. -/
theorem inbSem (d : Fin 32) : ∀ a, (![d.val] : Fin 1 → ℕ) a + S1.size a ≤ S32.size a := by revert d; decide

/-- Slot `d` of the receive buffer. -/
abbrev slotM (d : Fin 32) : Memref sig .tc .vmem S1x512 .f32 :=
  ((cM.slice (Rect.unit (s := S32x1x512) ![d.val, 0, 0] S1x1x512.size (inbSlot d)) (fun _ => rfl)).squeeze S1x512 squeezes_S1x1x512_S1x512)

/-- The runtime's barrier semaphore. -/
abbrev barS : Sem sig := (SemArray.scalar (sig.barrier 0 rfl) : Sems sig S_).sem
/-- The second barrier's semaphore. -/
abbrev bar2S : Sem sig := (cc0_scoped0 : Sems sig S_).sem
/-- The send semaphore of offset `d`. -/
abbrev sendS (d : Fin 32) : DmaSem sig :=
  (((cc0_scratch2 : DmaSems sig S32).slice (Rect.unit (s := S32) ![d.val] S1.size (inbSem d))).squeeze S_ squeezes_S1_S_).sem
/-- The receive semaphore of offset `d`. -/
abbrev recvS (d : Fin 32) : DmaSem sig :=
  (((cc0_scratch3 : DmaSems sig S32).slice (Rect.unit (s := S32) ![d.val] S1.size (inbSem d))).squeeze S_ squeezes_S1_S_).sem

/-- The sorts of cell: the two barriers, the send cells, the receive cells. -/
abbrev Kind : Type := Fin 2 ⊕ (Fin 32 ⊕ Fin 32)
/-- The sort of the first barrier's cell. -/
abbrev kBar : Kind := .inl 0
/-- The sort of the second barrier's cell. -/
abbrev kBar2 : Kind := .inl 1
/-- The sort of the send cell of offset `d`. -/
abbrev kSend (d : Fin 32) : Kind := .inr (.inl d)
/-- The sort of the receive cell of offset `d`. -/
abbrev kRecv (d : Fin 32) : Kind := .inr (.inr d)

/-- The semaphore of each sort of cell. -/
def semOf : Kind → SemLoc sig
  | .inl 0 => .reg barS
  | .inl 1 => .reg bar2S
  | .inr (.inl d) => .dma (sendS d)
  | .inr (.inr d) => .dma (recvS d)

/-- The sort of the cell of a semaphore, if the protocol uses it. -/
def kindOf : SemLoc sig → Option Kind
  | .reg s => if s = barS then some kBar else if s = bar2S then some kBar2 else none
  | .dma q =>
    if h : 34 ≤ q.val ∧ q.val - 34 < 32 then some (kRecv ⟨q.val - 34, h.2⟩)
    else if h : 2 ≤ q.val ∧ q.val - 2 < 32 then some (kSend ⟨q.val - 2, h.2⟩)
    else none

/-- Reading the sort off a sort's semaphore gives it back. -/
theorem kindOf_semOf (k : Kind) : kindOf (semOf k) = some k := by revert k; decide +kernel
/-- Different sorts have different semaphores. -/
theorem semOf_injective : Function.Injective semOf := fun a b h =>
  Option.some.inj ((kindOf_semOf a).symm.trans ((congrArg kindOf h).trans (kindOf_semOf b)))

/-- The cell of sort `k` of device `c`. -/
abbrev cellAt (c : Dev nD) (k : Kind) : GSem nD τ sig := ((c : Thread nD τ), semOf k)
/-- The first barrier's cell on device `c`. -/
abbrev barCell (c : Dev nD) : GSem nD τ sig := ((c : Thread nD τ), .reg barS)
/-- The second barrier's cell on device `c`. -/
abbrev bar2Cell (c : Dev nD) : GSem nD τ sig := ((c : Thread nD τ), .reg bar2S)
/-- The send cell of offset `d` on device `c`. -/
abbrev sendCell (c : Dev nD) (d : Fin 32) : GSem nD τ sig := ((c : Thread nD τ), .dma (sendS d))
/-- The receive cell of offset `d` on device `c`. -/
abbrev recvCell (c : Dev nD) (d : Fin 32) : GSem nD τ sig := ((c : Thread nD τ), .dma (recvS d))

/-- A cell tells its device and its sort. -/
theorem cellAt_inj {c c' : Dev nD} {k k' : Kind} (h : cellAt c k = cellAt c' k') : c = c' ∧ k = k' :=
  ⟨congrArg (fun g : GSem nD τ sig => g.1.1) h, semOf_injective (congrArg Prod.snd h)⟩

/-- What one copy credits. -/
abbrev N : ℕ := (tM : Memref sig .tc .vmem S1x512 .f32).view.dmaCredit
/-- A copy's credit is positive. -/
theorem N_pos : 0 < N := View.dmaCredit_pos _ (by decide)
/-- Every slot has the same credit. -/
theorem slot_credit (d : Fin 32) : (slotM d).view.dmaCredit = N := by revert d; decide +kernel

/-! ## Contents -/

variable (m : (ℓ : Loc nD τ sig) → Buf (Elt F) ℓ) (ρ : Dev nD → PrngReg)

/-- The memory at launch. -/
def s₀ : MemSt nD τ sig (Elt F) := ⟨m, fun _ => 0, ρ⟩

/-- The block of the argument that device `c` works on. -/
def xstg (c : Dev nD) : (cc0_stg0_0 : Ref sig .tc).ty.Contents (Elt F) :=
  (win0_0.blk (0 : Fin 1)).view.read (Elt F) ((s₀ m ρ).mem ((c : Thread nD τ).loc main_arg0))

/-- The column sums of that block. -/
def tot (c : Dev nD) : (cc0_scratch0 : Ref sig .tc).ty.Contents (Elt F) := k0_pay1 (xstg m ρ c)

/-- A slot of device `c` at some contents. -/
def slotAny (c : Dev nD) (d : Fin 32) : sProp 𝕄 :=
  iprop(∃ f : Buf (Elt F) ((slotM d).view.loc (c : Thread nD τ)), (slotM d).view.loc (c : Thread nD τ) ↦[(slotM d).view.set]{fullShare} f)

/-- Slot `d` of device `c` holding the column sums of the device `d` places before. -/
def slotFull (c : Dev nD) (d : Fin 32) : sProp 𝕄 :=
  owns (Ix := Unit) (Name := ℕ) (U := UU) (Lvl := ℕ) (c : Thread nD τ) (slotM d) fullShare (tot m ρ (fwd c (opp d)))

/-- A share of the column sums of device `c`. -/
def totPts (c : Dev nD) (q : PosShare TreeShare) : sProp 𝕄 :=
  (tM : Memref sig .tc .vmem S1x512 .f32).view.loc (c : Thread nD τ) ↦[(tM : Memref sig .tc .vmem S1x512 .f32).view.set]{q} tot m ρ c

/-- The share lent to the copy at offset `d`. -/
abbrev lent (d : Fin 32) : PosShare TreeShare := Transfers.shareTok fullShare 32 d

omit [FloatOps F] in
instance slotAny_storable (c : Dev nD) (d : Fin 32) : BI.Storable (upEmb : UEmb _ 𝕄) (slotAny (F := F) c d) := by
  unfold slotAny; infer_instance
instance slotFull_storable (c : Dev nD) (d : Fin 32) : BI.Storable (upEmb : UEmb _ 𝕄) (slotFull (F := F) m ρ c d) := by
  unfold slotFull; infer_instance
instance totPts_storable (c : Dev nD) (q : PosShare TreeShare) : BI.Storable (upEmb : UEmb _ 𝕄) (totPts (F := F) m ρ c q) := by
  unfold totPts; infer_instance

/-! ## The schedule -/

/-- The duties of a cell: 31 signals on a barrier, one landing where a copy is made, none elsewhere. -/
def dutiesK (c : Dev nD) : Kind → Finset (Fin 32)
  | .inl _ => ups 1
  | .inr (.inl d) => if 1 ≤ d.val ∧ c.val + d.val < 32 then {0} else ∅
  | .inr (.inr d) => if 1 ≤ d.val ∧ d.val ≤ c.val then {0} else ∅

/-- The amount of each duty: one for a signal, a slot's credit for a copy. -/
def amountK : Kind → ℕ
  | .inl _ => 1
  | .inr _ => N

/-- What the signal from device `c + e` hands device `c`. -/
def barPay (c : Dev nD) (e : Fin 32) : sProp 𝕄 := if c.val + e.val < 32 then slotAny (fwd c e) e else iprop(emp)

/-- What each payment hands to the cell's owner. -/
def payK (c : Dev nD) : Kind → Fin 32 → sProp 𝕄
  | .inl 0 => fun e => barPay c e
  | .inl 1 => fun _ => iprop(emp)
  | .inr (.inl d) => fun _ => totPts m ρ c (lent d)
  | .inr (.inr d) => fun _ => slotFull m ρ c d

instance payK_storable (c : Dev nD) (k : Kind) (e : Fin 32) : BI.Storable (upEmb : UEmb _ 𝕄) (payK (F := F) m ρ c k e) := by
  rcases k with i | d | d
  · fin_cases i
    · show BI.Storable upEmb (barPay (F := F) c e); unfold barPay; split <;> infer_instance
    · show BI.Storable upEmb (iprop(emp) : sProp 𝕄); infer_instance
  · show BI.Storable upEmb (totPts (F := F) m ρ c (lent d)); infer_instance
  · show BI.Storable upEmb (slotFull (F := F) m ρ c d); infer_instance

/-- One round; each cell's duties by its sort. -/
def sched : Rounds.Schedule (GSem nD τ sig) (Fin 32) 𝕄 where
  duties g r := if r = 0 ∧ g.1.2 = .tc then (match kindOf g.2 with | some k => dutiesK g.1.1 k | none => ∅) else ∅
  unitless _ := False
  amount g _ _ := match kindOf g.2 with | some k => amountK k | none => 1
  payload g _ e := match kindOf g.2 with | some k => payK m ρ g.1.1 k e | none => iprop(emp)
  amount_pos g _ _ _ := by
    split
    · rename_i k _; rcases k with _ | _
      · exact Nat.one_pos
      · exact N_pos
    · exact Nat.one_pos

instance sched_storable (g : GSem nD τ sig) (r : ℕ) (e : Fin 32) :
    BI.Storable (upEmb : UEmb _ 𝕄) ((sched (F := F) m ρ).payload g r e) := by
  show BI.Storable upEmb (match kindOf g.2 with | some k => payK m ρ g.1.1 k e | none => iprop(emp))
  split <;> infer_instance

omit [FloatOps F] in
/-- A proposition equal to truth holds. -/
theorem true_of_eq {a : Prop} (h : a = True) : a := h ▸ trivial

/-- The schedule's duties at a protocol cell in its one round. -/
theorem duties_at (c : Dev nD) (k : Kind) : (sched (F := F) m ρ).duties (cellAt c k) 0 = dutiesK c k := by
  dsimp only [sched]; rw [if_pos ⟨rfl, rfl⟩, kindOf_semOf]
/-- The schedule's amounts at a protocol cell. -/
theorem amount_at (c : Dev nD) (k : Kind) (e : Fin 32) : (sched (F := F) m ρ).amount (cellAt c k) 0 e = amountK k := by
  dsimp only [sched]; rw [kindOf_semOf]
/-- The schedule's payloads at a protocol cell. -/
theorem payload_at (c : Dev nD) (k : Kind) (e : Fin 32) : (sched (F := F) m ρ).payload (cellAt c k) 0 e = payK m ρ c k e := by
  dsimp only [sched]; rw [kindOf_semOf]
/-- No cell has a second round. -/
theorem duties_later (g : GSem nD τ sig) : ∀ r, 1 ≤ r → (sched (F := F) m ρ).duties g r = ∅ := fun r hr => by
  dsimp only [sched]; rw [if_neg fun h => by omega]
/-- A cell without duties has none in any round. -/
theorem duties_none (c : Dev nD) (k : Kind) (h : dutiesK c k = ∅) :
    ∀ r, 0 ≤ r → (sched (F := F) m ρ).duties (cellAt c k) r = ∅ := fun r _ => by
  rcases Nat.eq_zero_or_pos r with rfl | hr
  · rw [duties_at, h]
  · exact duties_later m ρ _ r hr

/-- A barrier waits for 31 units. -/
theorem expect_bar (c : Dev nD) (i : Fin 2) : (sched (F := F) m ρ).expect (cellAt c (.inl i)) 0 = 31 := by
  unfold Schedule.expect Schedule.amountOf
  rw [duties_at, Finset.sum_congr rfl fun d _ => amount_at m ρ c (.inl i) d]
  show ∑ _ ∈ ups 1, 1 = 31
  rw [Finset.sum_const, card_ups]; rfl
/-- A cell with one copy waits for that copy's credit. -/
theorem expect_one (c : Dev nD) (k : Fin 32 ⊕ Fin 32) (h : dutiesK c (.inr k) = {0}) :
    (sched (F := F) m ρ).expect (cellAt c (.inr k)) 0 = N := by
  unfold Schedule.expect Schedule.amountOf
  rw [duties_at, h, Finset.sum_singleton, amount_at]; rfl

/-! ## What each device owes; the levels -/

/-- What device `c`'s operations at offset `d` pay to other devices. -/
def tBar (c : Dev nD) (d : Fin 32) : CellTallies nD τ sig Unit := tallyAt (barCell (fwd c d)) () 1
/-- What device `c` owes for the copy at offset `d`, if it makes one. -/
def tSend (c : Dev nD) (d : Fin 32) : CellTallies nD τ sig Unit :=
  if c.val + d.val < 32 then tallyAt (recvCell (fwd c d) d) () N else 0
/-- What device `c` owes the second barrier of the device `d` after it. -/
def tBar2 (c : Dev nD) (d : Fin 32) : CellTallies nD τ sig Unit := tallyAt (bar2Cell (fwd c d)) () 1

/-- What a device owes once its copies are under way. -/
def O₂ (c : Dev nD) : CellTallies nD τ sig Unit := ∑ d ∈ ups 1, tBar2 c d
/-- What a device owes after the first handshake. -/
def O₁ (c : Dev nD) : CellTallies nD τ sig Unit := O₂ c + ∑ d ∈ ups 1, tSend c d
/-- What a device owes at launch. -/
def O₀ (c : Dev nD) : CellTallies nD τ sig Unit := O₁ c + ∑ d ∈ ups 1, tBar c d

/-- The labels of a cell: one on a TensorCore, none elsewhere. -/
def L (g : GSem nD τ sig) : Finset Unit := if g.1.2 = .tc then {()} else ∅

/-- The level of each sort of cell. -/
def lvK : Kind → ℕ
  | .inl 0 => 1
  | .inl 1 => 3
  | .inr (.inl _) => 0
  | .inr (.inr _) => 2
/-- Barriers at 1, receive cells at 2, second barriers at 3, everything else at 0. -/
def lv (g : GSem nD τ sig) (_ : Unit) : ℕ := match kindOf g.2 with | some k => lvK k | none => 0

/-- Cells away from the TensorCore have no label. -/
theorem L_of_ne (g : GSem nD τ sig) (h : g.1.2 ≠ .tc) : L g = ∅ := if_neg h
/-- A TensorCore's cell has the one label. -/
theorem L_tc (c : Dev nD) (sm : SemLoc sig) : L ((c : Thread nD τ), sm) = {()} := if_pos rfl
/-- The level of a protocol cell is its sort's. -/
theorem lv_at (c : Dev nD) (k : Kind) (u : Unit) : lv (cellAt c k) u = lvK k := by
  unfold lv; rw [kindOf_semOf]

/-- A sum of debts that is positive at a cell has a summand that is. -/
theorem sum_pos {s : Finset (Fin 32)} {T : Fin 32 → CellTallies nD τ sig Unit} {g : GSem nD τ sig} {u : Unit}
    (h : 0 < (∑ d ∈ s, T d) g u) : ∃ d ∈ s, 0 < T d g u := by
  by_contra hn
  push Not at hn
  have : (∑ d ∈ s, T d) g u = 0 := by
    rw [Finset.sum_apply, Finsupp.finset_sum_apply]
    exact Finset.sum_eq_zero fun d hd => Nat.le_zero.mp (hn d hd)
  omega
/-- A single debt is positive only at its own cell. -/
theorem tally_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

/-- Everything owed in `O` sits on a TensorCore's cell above level `n`. -/
def Above (n : ℕ) (O : CellTallies nD τ sig Unit) : Prop := ∀ g u, 0 < O g u → g.1.2 = .tc ∧ n < lv g u

/-- No debt is above every level. -/
theorem above_zero (n : ℕ) : Above n 0 := fun g u h => absurd h (Nat.lt_irrefl 0)
/-- Two debts above a level are together above it. -/
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
/-- So is a sum of them. -/
theorem above_sum {n : ℕ} {s : Finset (Fin 32)} {T : Fin 32 → CellTallies nD τ sig Unit} (h : ∀ d ∈ s, Above n (T d)) :
    Above n (∑ d ∈ s, T d) := fun g u hg => by
  obtain ⟨d, hd, hp⟩ := sum_pos hg
  exact h d hd g u hp
/-- A single debt is above the levels below its cell's. -/
theorem above_tally {n k : ℕ} {c : Dev nD} {kd : Kind} (h : n < lvK kd) : Above n (tallyAt (cellAt c kd) () k) := fun g u hg => by
  rw [tally_pos hg, lv_at]; exact ⟨rfl, h⟩

/-- First signals are above level 0. -/
theorem above_bar (c : Dev nD) (d : Fin 32) : Above 0 (tBar c d) := above_tally (kd := kBar) (by decide)
/-- Copies are above level 1. -/
theorem above_send (c : Dev nD) (d : Fin 32) : Above 1 (tSend c d) := by
  unfold tSend; split
  · exact above_tally (kd := kRecv d) (show 1 < 2 by decide)
  · exact above_zero 1
/-- Second signals are above level 2. -/
theorem above_bar2 (c : Dev nD) (d : Fin 32) : Above 2 (tBar2 c d) := above_tally (kd := kBar2) (by decide)
/-- What is above a level is above every lower one. -/
theorem Above.mono {n n' : ℕ} {O : CellTallies nD τ sig Unit} (h : Above n O) (hn : n' ≤ n) : Above n' O :=
  fun g u hg => ⟨(h g u hg).1, lt_of_le_of_lt hn (h g u hg).2⟩

/-- After the copies everything owed is above level 2. -/
theorem above_O₂ (c : Dev nD) : Above 2 (O₂ c) := above_sum fun d _ => above_bar2 c d
/-- After the first handshake everything owed is above level 1. -/
theorem above_O₁ (c : Dev nD) : Above 1 (O₁ c) :=
  above_add ((above_O₂ c).mono (by decide)) (above_sum fun d _ => above_send c d)
/-- At launch everything owed is above level 0. -/
theorem above_O₀ (c : Dev nD) : Above 0 (O₀ c) :=
  above_add ((above_O₁ c).mono (by decide)) (above_sum fun d _ => above_bar c d)

omit [FloatOps F] in
/-- A device may wait on a cell of its own that lies no higher than the cut everything it owes lies above. -/
theorem mayWait (n : ℕ) (c : Dev nD) (sm : SemLoc sig) (hs : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

end Cert.PrefixSum

end
-- ==== Proof.Steps.lean ====
/-
What each operation of the kernel does to the protocol's resources, at an arbitrary offset, and the rule by which a
written-out loop over the offsets 1 to 31 is taken one offset at a time.
-/
module

public import proofs.«01_k».proof.Proof.Protocol

@[expose] public section

set_option maxRecDepth 16384

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The kernel's programs. -/
abbrev PP (F : FTy → Type) : Type → Type 1 := Prog (TpuEff nD τ sig (Elt F) Λ₀ .tc)

/-- No loop variants are needed. -/
abbrev 𝒱₀ : Variants := Variants.none

variable (m : (ℓ : Loc nD τ sig) → Buf (Elt F) ℓ) (ρ : Dev nD → PrngReg) (K : Dev nD × Kind → ℕ)

/-- Running `p` on device `c` ends with `Q`. -/
abbrev Run {α : Type} (c : Dev nD) (p : PP F α) (Q : α → sProp 𝕄) : sProp 𝕄 :=
  wp frame (wpE (defs₀ (F := F)) 𝒱₀ (c : Thread nD τ) none) Set.univ p Q

/-! ## What is known throughout -/

/-- Every cell's invariant, that every cell has reached round 0, and the levels. -/
def pers : sProp 𝕄 :=
  iprop((bigSep Finset.univ fun ck : Dev nD × Kind => cellInv ER (sched (F := F) m ρ) (K ck) (cellAt ck.1 ck.2))
    ∗ (bigSep Finset.univ fun ck : Dev nD × Kind => reached ER (cellAt ck.1 ck.2) 0) ∗ levAts L lv)

instance pers_persistent : BI.Persistent (pers (F := F) m ρ K) := by unfold pers; infer_instance

/-- The shared facts include each cell's invariant. -/
theorem pers_inv (c : Dev nD) (k : Kind) : pers m ρ K ⊢ cellInv ER (sched (F := F) m ρ) (K (c, k)) (cellAt c k) := by
  unfold pers
  iintro ⟨H, -, -⟩
  iapply (show _ ⊢ cellInv ER (sched (F := F) m ρ) (K (c, k)) (cellAt c k) from
    bigSep_elim (Φ := fun ck : Dev nD × Kind => cellInv ER (sched (F := F) m ρ) (K ck) (cellAt ck.1 ck.2)) (Finset.mem_univ (c, k)))
  iexact H
/-- The shared facts include that each cell is in its first round. -/
theorem pers_reached (c : Dev nD) (k : Kind) : pers (F := F) m ρ K ⊢ reached ER (cellAt c k) 0 := by
  unfold pers
  iintro ⟨-, H, -⟩
  iapply (show _ ⊢ reached ER (cellAt c k) 0 from
    bigSep_elim (Φ := fun ck : Dev nD × Kind => (reached ER (cellAt ck.1 ck.2) 0 : sProp 𝕄)) (Finset.mem_univ (c, k)))
  iexact H
/-- A device may wait on a cell below all that it owes. -/
theorem pers_wait (n : ℕ) (c : Dev nD) (k : Kind) (hk : lvK k ≤ n) {O : CellTallies nD τ sig Unit} (hO : Above n O) :
    pers (F := F) m ρ K ⊢ MayWait (c : Thread nD τ) (semOf k) () O := by
  unfold pers
  iintro ⟨-, -, H⟩
  iapply (mayWait n c (semOf k) ((lv_at c k ()).trans_le hk) hO)
  iexact H

/-- Some state of the waits, with `O` owed. -/
def ow (c : Dev nD) (O : CellTallies nD τ sig Unit) : sProp 𝕄 := iprop(∃ W, owes (c : Thread nD τ) O W)

/-- A cell of which no further duty will be used. -/
def spent (c : Dev nD) (k : Kind) : sProp 𝕄 :=
  iprop(∃ R, ⌜∀ r, R ≤ r → (sched (F := F) m ρ).duties (cellAt c k) r = ∅⌝ ∗ atPos ER (cellAt c k) R ∅ 0)

/-- A cell past its only round is finished. -/
theorem spent_later (c : Dev nD) (k : Kind) : atPos ER (cellAt c k) (0 + 1) ∅ 0 ⊢ spent (F := F) m ρ c k := by
  unfold spent
  iintro H
  iexists (0 + 1); isplitr
  · ipureintro; exact duties_later m ρ _
  iexact H
/-- A cell without duties is finished from the start. -/
theorem spent_none (c : Dev nD) (k : Kind) (h : dutiesK c k = ∅) : atPos ER (cellAt c k) 0 ∅ 0 ⊢ spent (F := F) m ρ c k := by
  unfold spent
  iintro H
  iexists 0; isplitr
  · ipureintro; exact duties_none m ρ c k h
  iexact H
/-- A finished cell gives its counter back at zero. -/
theorem spent_close (c : Dev nD) (k : Kind) : iprop(pers m ρ K ∗ spent (F := F) m ρ c k) ⊢ iprop(|={Set.univ}=> semVal (cellAt c k) 0) := by
  unfold spent
  iintro ⟨#Hp, ⟨%R, %hR, H⟩⟩
  imod (Rounds.cell_close ER (sched (F := F) m ρ) (Set.mem_univ (K (c, k))) (fun h => h) (R := R) hR) $$ [H] with Hz
  · isplitr; · iapply (pers_inv m ρ K c k); iexact Hp
    iexact H
  imodintro; iexact Hz

/-! ## One operation at one offset -/

/-- A signal of the first handshake takes the token of the duty it pays and, when it must hand one over, a slot. -/
def sigIn (c : Dev nD) (d : Fin 32) : sProp 𝕄 :=
  iprop(dutyTok ER (barCell (fwd c d)) 0 (opp d) ∗ if 32 ≤ c.val + d.val then slotAny (F := F) c (opp d) else iprop(emp))

/-- What the signal at offset `d` hands over: the slot that the target will copy into, if it copies. -/
theorem barPay_opp (c : Dev nD) (d : Fin 32) (hd : 1 ≤ d.val) :
    barPay (F := F) (fwd c d) (opp d) = if 32 ≤ c.val + d.val then slotAny (F := F) c (opp d) else iprop(emp) := by
  unfold barPay
  rw [fwd_opp]
  have h1 := d.isLt; have h2 := dev_lt c
  have : ((fwd c d).val + (opp d).val < 32) ↔ 32 ≤ c.val + d.val := by simp only [fwd_val, opp_val]; omega
  simp only [this]

/-- One signal of the first handshake. -/
theorem sig_one (c : Dev nD) (d : Fin 32) (hd : 1 ≤ d.val) (O : CellTallies nD τ sig Unit) (W : Waits sig Unit) :
    iprop(pers m ρ K ∗ owes (c : Thread nD τ) (O + tBar c d) W ∗ sigIn (F := F) c d)
      ⊢ Run (F := F) c (semSignalWord (fwd c d : Dev nD) barS 1#32) (fun _ => iprop(ow c O ∗ emp)) := by
  unfold sigIn semSignalWord
  iintro ⟨#Hp, HO, Ht, Hs⟩
  iapply (Rounds.wp_signal 𝒱₀ ER (sched m ρ) (c : Thread nD τ) none (dst := (fwd c d : Thread nD τ)) (κ := K (fwd c d, kBar))
      (d := opp d) (by rw [show (((fwd c d : Dev nD) : Thread nD τ), SemLoc.reg barS) = cellAt (fwd c d) kBar from rfl, duties_at]; exact opp_mem (mem_ups.mpr hd))
      ((amount_at m ρ (fwd c d) kBar (opp d)).trans (by decide)) () O rfl)
    $$ [HO Ht Hs]
  · isplitr; · iapply (pers_inv m ρ K (fwd c d) kBar); iexact Hp
    isplitl [HO]; · iexact HO
    isplitl [Ht]; · iexact Ht
    isplitl [Hs]
    · iapply (show _ ⊢ (sched (F := F) m ρ).payload ((fwd c d : Thread nD τ), .reg barS) 0 (opp d) from
        Entails.of_eq ((payload_at m ρ (fwd c d) kBar (opp d)).trans (barPay_opp c d hd)).symm)
      iexact Hs
    iapply (pers_reached m ρ K (fwd c d) kBar); iexact Hp
  iintro HO
  iapply (le_wp_ret _ _ _ _ _)
  isplitl [HO]
  · unfold ow; iexists W; iexact HO
  iempintro

/-- One signal of the second handshake. -/
theorem sig2_one (c : Dev nD) (d : Fin 32) (hd : 1 ≤ d.val) (O : CellTallies nD τ sig Unit) (W : Waits sig Unit) :
    iprop(pers m ρ K ∗ owes (c : Thread nD τ) (O + tBar2 c d) W ∗ dutyTok ER (bar2Cell (fwd c d)) 0 (opp d))
      ⊢ Run (F := F) c (semSignalWord (fwd c d : Dev nD) bar2S 1#32) (fun _ => iprop(ow c O ∗ emp)) := by
  unfold semSignalWord
  iintro ⟨#Hp, HO, Ht⟩
  iapply (Rounds.wp_signal 𝒱₀ ER (sched m ρ) (c : Thread nD τ) none (dst := (fwd c d : Thread nD τ)) (κ := K (fwd c d, kBar2))
      (d := opp d) (by rw [show (((fwd c d : Dev nD) : Thread nD τ), SemLoc.reg bar2S) = cellAt (fwd c d) kBar2 from rfl, duties_at]; exact opp_mem (mem_ups.mpr hd))
      ((amount_at m ρ (fwd c d) kBar2 (opp d)).trans (by decide)) () O rfl)
    $$ [HO Ht]
  · isplitr; · iapply (pers_inv m ρ K (fwd c d) kBar2); iexact Hp
    isplitl [HO]; · iexact HO
    isplitl [Ht]; · iexact Ht
    isplitr
    · iapply (show iprop(emp) ⊢ (sched (F := F) m ρ).payload ((fwd c d : Thread nD τ), .reg bar2S) 0 (opp d) from
        Entails.of_eq (payload_at m ρ (fwd c d) kBar2 (opp d)).symm)
      iempintro
    iapply (pers_reached m ρ K (fwd c d) kBar2); iexact Hp
  iintro HO
  iapply (le_wp_ret _ _ _ _ _)
  isplitl [HO]
  · unfold ow; iexists W; iexact HO
  iempintro

/-- What one wait on a cell of one's own hands over: all the payloads of the round. -/
theorem rest_at (c : Dev nD) (k : Kind) :
    bigSep ((sched (F := F) m ρ).duties (cellAt c k) 0 \ ∅) (fun d => (sched (F := F) m ρ).payload (cellAt c k) 0 d)
      = bigSep (dutiesK c k) (fun e => payK m ρ c k e) := by
  rw [Finset.sdiff_empty, duties_at]
  exact bigSep_congr fun e _ => payload_at m ρ c k e

/-- The wait on a barrier collects what the 31 signals hand over. -/
theorem bar_wait (c : Dev nD) (i : Fin 2) (s : Sem sig) (hs : semOf (.inl i) = .reg s) (O : CellTallies nD τ sig Unit)
    (hO : Above (lvK (.inl i)) O) :
    iprop(pers m ρ K ∗ ow c O ∗ cred (tallyAt (cellAt c (.inl i)) () 31) ∗ atPos ER (cellAt c (.inl i)) 0 ∅ 0)
      ⊢ Run (F := F) c (semWaitWord s 31#32)
          (fun _ => iprop(ow c O ∗ spent (F := F) m ρ c (.inl i) ∗ bigSep (ups 1) (fun e => payK m ρ c (.inl i) e))) := by
  unfold semWaitWord cellAt
  rw [hs]
  iintro ⟨#Hp, HO, Hc, Hat⟩
  unfold ow
  icases HO with ⟨%W, HO⟩
  iapply (Rounds.wp_wait_rest_token 𝒱₀ ER (sched m ρ) (c : Thread nD τ) none (κ := K (c, .inl i))
      (wpE_semWait_eq 𝒱₀ (c : Thread nD τ) none Set.univ) (Set.mem_univ _) () (O := O) (W := W) (R := 0) (m := 0) (T := ∅)
      (by rw [← hs, expect_bar]; decide)) $$ [Hc HO Hat]
  · isplitr; · rw [← hs]; iapply (pers_inv m ρ K c (.inl i)); iexact Hp
    isplitl [Hc]; · iexact Hc
    isplitl [HO]; · iexact HO
    isplitr; · rw [← hs]; iapply (pers_wait m ρ K _ c (.inl i) le_rfl hO); iexact Hp
    iexact Hat
  iintro ⟨HO, Hat, -, Hpay⟩
  rw [← hs]
  ihave Hpay := (Entails.of_eq (rest_at m ρ c (.inl i))) $$ Hpay
  iapply (le_wp_ret _ _ _ _ _)
  isplitl [HO]
  · iexists _; iexact HO
  isplitl [Hat]
  · iapply (spent_later m ρ c (.inl i)); iexact Hat
  iexact Hpay

/-- What the send at one offset takes: what the barrier gave for it, both duty tokens, a share of the column sums. -/
def sendIn (c : Dev nD) (d : Fin 32) : sProp 𝕄 :=
  iprop(payK m ρ c kBar d ∗ (dutyTok ER (recvCell (fwd c d) d) 0 (0 : Fin 32) ∗ dutyTok ER (sendCell c d) 0 (0 : Fin 32)) ∗ totPts m ρ c (lent d))

/-- What it leaves: the credit of its send cell, or the share if there was nothing to send. -/
def sent (c : Dev nD) (d : Fin 32) : sProp 𝕄 :=
  if c.val + d.val < 32 then cred (tallyAt (sendCell c d) () N) else totPts m ρ c (lent d)

/-- A send cell has a duty where its device makes the copy. -/
theorem dutiesK_send (c : Dev nD) (d : Fin 32) (hd : 1 ≤ d.val) (h : c.val + d.val < 32) : dutiesK c (kSend d) = {0} := if_pos ⟨hd, h⟩
/-- It has none where the target would lie past the last device. -/
theorem dutiesK_send_none (c : Dev nD) (d : Fin 32) (h : ¬ c.val + d.val < 32) : dutiesK c (kSend d) = ∅ := if_neg fun h' => h h'.2
/-- A receive cell has a duty where an earlier device copies into the slot. -/
theorem dutiesK_recv (c : Dev nD) (d : Fin 32) (hd : 1 ≤ d.val) (h : d.val ≤ c.val) : dutiesK c (kRecv d) = {0} := if_pos ⟨hd, h⟩
/-- It has none where no device is that far back. -/
theorem dutiesK_recv_none (c : Dev nD) (d : Fin 32) (h : ¬ d.val ≤ c.val) : dutiesK c (kRecv d) = ∅ := if_neg fun h' => h h'.2
/-- A device reached without wrapping around lies at least that far along. -/
theorem fwd_ge (c : Dev nD) (d : Fin 32) (h : c.val + d.val < 32) : d.val ≤ (fwd c d).val := by rw [fwd_val]; omega

/-- The copy itself, when there is one. -/
theorem send_go (c : Dev nD) (d : Fin 32) (hd : 1 ≤ d.val) (h : c.val + d.val < 32) (O : CellTallies nD τ sig Unit) (W : Waits sig Unit)
    (n : Dev nD) (hn : n = fwd c d)
    {hsc : (slotM d : Memref sig (Dev.tc n : Thread nD τ).2.kind .vmem S1x512 .f32).view.ref.isScScratch = false}
    {hsrc : (tM : Memref sig .tc .vmem S1x512 .f32).view.WordExact}
    {hdw : (slotM d : Memref sig (Dev.tc n : Thread nD τ).2.kind .vmem S1x512 .f32).view.WordExact}
    {hsem : DmaTarget.Typed .vmem (.dma (recvS d)) (.remote (Dev.tc n : Thread nD τ) (slotM d) (.dma (sendS d)) hsc)} :
    iprop(pers m ρ K ∗ owes (c : Thread nD τ) (O + tallyAt (recvCell (fwd c d) d) () N) W ∗ sendIn (F := F) m ρ c d)
      ⊢ Run (F := F) c (Prog.lift (.enqueueDma tM (.remote (Dev.tc n) (slotM d) (.dma (sendS d)) hsc) (.dma (recvS d)) hsrc hdw hsem))
          (fun _ => iprop(ow c O ∗ cred (tallyAt (sendCell c d) () N))) := by
  subst hn
  unfold sendIn
  unfold Prog.lift
  iintro ⟨#Hp, HO, Hb, ⟨Htr, Hts⟩, Hx⟩
  ihave Hb := (Entails.of_eq (show payK (F := F) m ρ c kBar d = slotAny (F := F) (fwd c d) d from if_pos h)) $$ Hb
  unfold slotAny
  icases Hb with ⟨%fn, Hb⟩
  unfold totPts
  iapply (Rounds.wp_send_pointsTo 𝒱₀ ER (sched m ρ) (c : Thread nD τ) none (κ₁ := K (c, kSend d)) (κ₂ := K (fwd c d, kRecv d))
      (c' := (fwd c d : Thread nD τ)) (src := tM) (dst := slotM d) (sS := .dma (sendS d)) (sem := .dma (recvS d))
      (r₁ := 0) (r₂ := 0) (d₁ := (0 : Fin 32)) (d₂ := (0 : Fin 32)) (fs := tot m ρ c) (fd := fn) (q := lent d)
      (by rw [show (((c : Dev nD) : Thread nD τ), SemLoc.dma (sendS d)) = cellAt c (kSend d) from rfl, duties_at, dutiesK_send c d hd h]
          exact Finset.mem_singleton_self _)
      (by rw [show (((fwd c d : Dev nD) : Thread nD τ), SemLoc.dma (recvS d)) = cellAt (fwd c d) (kRecv d) from rfl, duties_at,
            dutiesK_recv (fwd c d) d hd (fwd_ge c d h)]
          exact Finset.mem_singleton_self _)
      () () N (slot_credit d) (amount_at m ρ c (kSend d) 0) (amount_at m ρ (fwd c d) (kRecv d) 0) O rfl (W := W)
      (by rw [show (((c : Dev nD) : Thread nD τ), SemLoc.dma (sendS d)) = cellAt c (kSend d) from rfl, payload_at]; exact BI.Entails.refl _)
      (by
        rw [show (((fwd c d : Dev nD) : Thread nD τ), SemLoc.dma (recvS d)) = cellAt (fwd c d) (kRecv d) from rfl, payload_at]
        show _ ⊢ slotFull m ρ (fwd c d) d
        unfold slotFull owns
        rw [fwd_opp]
        iintro H
        iexists _; isplitr
        swap
        · iexact H
        · ipureintro
          rw [View.read_write_univ]
          exact View.read_whole _ _))
    $$ [Hb HO Htr Hts Hx]
  · isplitr; · iapply (pers_inv m ρ K c (kSend d)); iexact Hp
    isplitr; · iapply (pers_inv m ρ K (fwd c d) (kRecv d)); iexact Hp
    isplitl [Hx]; · iexact Hx
    isplitl [Hb]; · iexact Hb
    isplitl [HO]; · iexact HO
    isplitl [Hts]; · iexact Hts
    isplitr; · iapply (pers_reached m ρ K c (kSend d)); iexact Hp
    isplitl [Htr]; · iexact Htr
    iapply (pers_reached m ρ K (fwd c d) (kRecv d)); iexact Hp
  iintro ⟨Hc, HO⟩
  iapply (le_wp_ret _ _ _ _ _)
  isplitl [HO]
  · unfold ow; iexists W; iexact HO
  iexact Hc

/-- One conditional copy: where it is made, the slot is given away and the debt paid. -/
theorem send_one (c : Dev nD) (d : Fin 32) (hd : 1 ≤ d.val) (O : CellTallies nD τ sig Unit) (W : Waits sig Unit)
    (b : BitVec 1) (hb : b = 1#1 ↔ c.val + d.val < 32) (dst : b = 1#1 → Dev nD) (hdst : ∀ h, dst h = fwd c d)
    {hsc : ∀ h, (slotM d : Memref sig (Dev.tc (dst h) : Thread nD τ).2.kind .vmem S1x512 .f32).view.ref.isScScratch = false}
    {hsrc : (tM : Memref sig .tc .vmem S1x512 .f32).view.WordExact}
    {hdw : ∀ h, (slotM d : Memref sig (Dev.tc (dst h) : Thread nD τ).2.kind .vmem S1x512 .f32).view.WordExact}
    {hsem : ∀ h, DmaTarget.Typed .vmem (.dma (recvS d)) (.remote (Dev.tc (dst h) : Thread nD τ) (slotM d) (.dma (sendS d)) (hsc h))} :
    iprop(pers m ρ K ∗ owes (c : Thread nD τ) (O + tSend c d) W ∗ sendIn (F := F) m ρ c d)
      ⊢ Run (F := F) c (dite (b = 1#1)
            (fun h => Prog.lift (.enqueueDma tM (.remote (Dev.tc (dst h)) (slotM d) (.dma (sendS d)) (hsc h)) (.dma (recvS d)) hsrc (hdw h) (hsem h)))
            (fun _ => pure ⟨⟩))
          (fun _ => iprop(ow c O ∗ sent (F := F) m ρ c d)) := by
  unfold sent tSend
  by_cases h : c.val + d.val < 32
  · rw [dif_pos (hb.mpr h), if_pos h, if_pos h]
    exact send_go m ρ K c d hd h O W _ (hdst _)
  · unfold sendIn
    rw [dif_neg fun h' => h (hb.mp h'), if_neg h, if_neg h, add_zero]
    iintro ⟨-, HO, -, -, Hx⟩
    iapply (le_wp_ret _ _ _ _ _)
    isplitl [HO]
    · unfold ow; iexists W; iexact HO
    iexact Hx

/-- A wait for a copy takes the position of its receive cell and, when a copy is due, the credit. -/
def recvIn (c : Dev nD) (d : Fin 32) : sProp 𝕄 :=
  iprop(atPos ER (recvCell c d) 0 ∅ 0 ∗ if d.val ≤ c.val then cred (tallyAt (recvCell c d) () N) else iprop(emp))

/-- It leaves the cell used up and, when a copy was due, the slot filled. -/
def recvOut (c : Dev nD) (d : Fin 32) : sProp 𝕄 :=
  iprop(spent (F := F) m ρ c (kRecv d) ∗ if d.val ≤ c.val then slotFull (F := F) m ρ c d else iprop(emp))

/-- One conditional wait for a copy that comes in: where it waits, the slot comes back filled. -/
theorem recv_one (c : Dev nD) (d : Fin 32) (hd : 1 ≤ d.val) (O : CellTallies nD τ sig Unit) (hO : Above 2 O) (W : Waits sig Unit)
    (b : BitVec 1) (hb : b = 1#1 ↔ d.val ≤ c.val)
    {hsrc : (tM : Memref sig .tc .vmem S1x512 .f32).view.WordExact} {hdw : (slotM d).view.WordExact} :
    iprop(pers m ρ K ∗ owes (c : Thread nD τ) O W ∗ recvIn (F := F) c d)
      ⊢ Run (F := F) c (dite (b = 1#1) (fun _ => Prog.lift (.waitDma2 (recvS d) tM (slotM d) hsrc hdw)) (fun _ => pure ⟨⟩))
          (fun _ => iprop(ow c O ∗ recvOut (F := F) m ρ c d)) := by
  unfold recvIn recvOut
  by_cases h : d.val ≤ c.val
  · rw [dif_pos (hb.mpr h), if_pos h, if_pos h]
    unfold Prog.lift
    iintro ⟨#Hp, HO, Hat, Hc⟩
    iapply (Rounds.wp_wait_rest_token 𝒱₀ ER (sched m ρ) (c : Thread nD τ) none (κ := K (c, kRecv d))
        (wpE_waitDma2_eq 𝒱₀ (c : Thread nD τ) none Set.univ) (Set.mem_univ _) () (O := O) (W := W) (R := 0) (m := 0) (T := ∅)
        (by rw [Nat.zero_add, show (((c : Dev nD) : Thread nD τ), SemLoc.dma (recvS d)) = cellAt c (kRecv d) from rfl,
              expect_one m ρ c _ (dutiesK_recv c d hd h), slot_credit d])) $$ [Hc HO Hat]
    · isplitr; · iapply (pers_inv m ρ K c (kRecv d)); iexact Hp
      isplitl [Hc]; · rw [slot_credit d]; iexact Hc
      isplitl [HO]; · iexact HO
      isplitr; · iapply (pers_wait m ρ K 2 c (kRecv d) le_rfl hO); iexact Hp
      iexact Hat
    iintro ⟨HO, Hat, -, Hpay⟩
    ihave Hpay := (Entails.of_eq (show bigSep ((sched (F := F) m ρ).duties ((c : Thread nD τ), .dma (recvS d)) 0 \ ∅) (fun e => (sched (F := F) m ρ).payload ((c : Thread nD τ), .dma (recvS d)) 0 e) = slotFull m ρ c d from
      (rest_at m ρ c (kRecv d)).trans (by rw [dutiesK_recv c d hd h, bigSep_singleton]; rfl))) $$ Hpay
    iapply (le_wp_ret _ _ _ _ _)
    isplitl [HO]
    · unfold ow; iexists _; iexact HO
    isplitl [Hat]
    · iapply (spent_later m ρ c (kRecv d)); iexact Hat
    iexact Hpay
  · rw [dif_neg fun h' => h (hb.mp h'), if_neg h, if_neg h]
    iintro ⟨-, HO, Hat, -⟩
    iapply (le_wp_ret _ _ _ _ _)
    isplitl [HO]
    · unfold ow; iexists W; iexact HO
    isplitl [Hat]
    · iapply (spent_none m ρ c (kRecv d) (dutiesK_recv_none c d h)); iexact Hat
    iempintro

/-- The wait for one's own copy to have left gives the lent share back. -/
def flyIn (c : Dev nD) (d : Fin 32) : sProp 𝕄 := iprop(atPos ER (sendCell c d) 0 ∅ 0 ∗ sent (F := F) m ρ c d)
/-- What the wait for one's own copy leaves: the finished send cell and the share that was lent. -/
def flyOut (c : Dev nD) (d : Fin 32) : sProp 𝕄 := iprop(spent (F := F) m ρ c (kSend d) ∗ totPts (F := F) m ρ c (lent d))

/-- One conditional wait for a copy that went out. -/
theorem fly_one (c : Dev nD) (d : Fin 32) (hd : 1 ≤ d.val) (O : CellTallies nD τ sig Unit) (hO : Above 2 O) (W : Waits sig Unit)
    (b : BitVec 1) (hb : b = 1#1 ↔ c.val + d.val < 32)
    {hsrc : (slotM d).view.WordExact} {hdw : (tM : Memref sig .tc .vmem S1x512 .f32).view.WordExact} :
    iprop(pers m ρ K ∗ owes (c : Thread nD τ) O W ∗ flyIn (F := F) m ρ c d)
      ⊢ Run (F := F) c (dite (b = 1#1) (fun _ => Prog.lift (.waitDma2 (sendS d) (slotM d) tM hsrc hdw)) (fun _ => pure ⟨⟩))
          (fun _ => iprop(ow c O ∗ flyOut (F := F) m ρ c d)) := by
  unfold flyIn flyOut sent
  by_cases h : c.val + d.val < 32
  · rw [dif_pos (hb.mpr h), if_pos h]
    unfold Prog.lift
    iintro ⟨#Hp, HO, Hat, Hc⟩
    iapply (Rounds.wp_wait_rest_token 𝒱₀ ER (sched m ρ) (c : Thread nD τ) none (κ := K (c, kSend d))
        (wpE_waitDma2_eq 𝒱₀ (c : Thread nD τ) none Set.univ) (Set.mem_univ _) () (O := O) (W := W) (R := 0) (m := 0) (T := ∅)
        (by rw [Nat.zero_add, show (((c : Dev nD) : Thread nD τ), SemLoc.dma (sendS d)) = cellAt c (kSend d) from rfl,
              expect_one m ρ c _ (dutiesK_send c d hd h)])) $$ [Hc HO Hat]
    · isplitr; · iapply (pers_inv m ρ K c (kSend d)); iexact Hp
      isplitl [Hc]; · iexact Hc
      isplitl [HO]; · iexact HO
      isplitr; · iapply (pers_wait m ρ K 2 c (kSend d) (by decide : 0 ≤ 2) hO); iexact Hp
      iexact Hat
    iintro ⟨HO, Hat, -, Hpay⟩
    ihave Hpay := (Entails.of_eq (show bigSep ((sched (F := F) m ρ).duties ((c : Thread nD τ), .dma (sendS d)) 0 \ ∅) (fun e => (sched (F := F) m ρ).payload ((c : Thread nD τ), .dma (sendS d)) 0 e) = totPts m ρ c (lent d) from
      (rest_at m ρ c (kSend d)).trans (by rw [dutiesK_send c d hd h, bigSep_singleton]; rfl))) $$ Hpay
    iapply (le_wp_ret _ _ _ _ _)
    isplitl [HO]
    · unfold ow; iexists _; iexact HO
    isplitl [Hat]
    · iapply (spent_later m ρ c (kSend d)); iexact Hat
    iexact Hpay
  · rw [dif_neg fun h' => h (hb.mp h'), if_neg h]
    iintro ⟨-, HO, Hat, Hx⟩
    iapply (le_wp_ret _ _ _ _ _)
    isplitl [HO]
    · unfold ow; iexists W; iexact HO
    isplitl [Hat]
    · iapply (spent_none m ρ c (kSend d) (dutiesK_send_none c d h)); iexact Hat
    iexact Hx

/-! ## Loops over the offsets -/

/-- A loop about to treat offset `n`: what is owed then, what the offsets to come take and what those done left. -/
def Loop (c : Dev nD) (Ow : ℕ → CellTallies nD τ sig Unit) (In Out : Fin 32 → sProp 𝕄) (n : ℕ) : sProp 𝕄 :=
  iprop(pers m ρ K ∗ ow c (Ow n) ∗ bigSep (ups n) In ∗ bigSep (downs n) Out)

/-- One offset taken off a written-out loop, whatever the loop does. -/
theorem loop_step (c : Dev nD) (Ow : ℕ → CellTallies nD τ sig Unit) (In Out : Fin 32 → sProp 𝕄) (d : Fin 32) (hd : 1 ≤ d.val)
    {α β : Type} {p : PP F α} {k : α → PP F β} {Q : β → sProp 𝕄} {R : sProp 𝕄}
    (one : ∀ W, iprop(pers m ρ K ∗ owes (c : Thread nD τ) (Ow d.val) W ∗ In d) ⊢ Run c p (fun _ => iprop(ow c (Ow (d.val + 1)) ∗ Out d)))
    (next : ∀ a, iprop(Loop m ρ K c Ow In Out (d.val + 1) ∗ R) ⊢ Run c (k a) Q) :
    iprop(Loop m ρ K c Ow In Out d.val ∗ R) ⊢ Run c (p >>= k) Q := by
  unfold Loop ow at *
  unfold Run at *
  rw [wp_bind, sep_ups]
  iintro ⟨⟨#Hp, ⟨%W, HO⟩, ⟨Hi, Hin⟩, Hout⟩, HR⟩
  iapply (wp_wand_r frame (wpE (defs₀ (F := F)) 𝒱₀ (c : Thread nD τ) none) Set.univ
    (Q := fun _ => iprop((∃ W, owes (c : Thread nD τ) (Ow (d.val + 1)) W) ∗ Out d)))
  isplitl [HO Hi]
  · iapply (one W)
    isplitr; · iexact Hp
    isplitl [HO] <;> iassumption
  iintro %a ⟨HO, Ho⟩
  iapply (next a)
  rw [sep_downs d hd]
  isplitr [HR]
  · isplitr; · iexact Hp
    isplitl [HO]; · iexact HO
    isplitl [Hin]; · iexact Hin
    isplitl [Ho] <;> iassumption
  iexact HR

/-- The two written-out branches of a conditional go on in the same way. -/
theorem dite_bind {b : Prop} [Decidable b] {β : Type} (e : b → PP F PUnit) (k : PP F β) :
    (dite b (fun h => e h >>= fun _ => k) (fun _ => k)) = (dite b e (fun _ => pure ⟨⟩)) >>= fun _ => k := by
  by_cases h : b
  · rw [dif_pos h, dif_pos h]
  · rw [dif_neg h, dif_neg h, pure_bind]

end Cert.PrefixSum

end
-- ==== Proof.Slots.lean ====
/-
The receive buffer as its 32 slots: which slots a device keeps and which it gives away in the first handshake, how the
buffer comes together again, and that the kernel's masked sum only looks at the slots that were filled.
-/
module

public import proofs.«01_k».proof.Proof.Steps
public import Idealize.ShloMosaic.Lib.Ring
public import Idealize.ShloMosaic.Lib.Exec.Geometry
public import Idealize.ShloMosaic.Lib.Pipeline.Value
public import Idealize.ShloMosaic.Lib.Pipeline.ValueKit.Geometry
public import Idealize.ShloMosaic.Lib.ValueLayout

@[expose] public section

set_option maxRecDepth 16384

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Kind → ℕ)

/-! ## Slots -/

/-- The place of row entry `y` in slot `d`. -/
def inSlot (d : Fin 32) (y : S1x512.Idx) : S32x1x512.Idx := ValueIdx.ix3 d (0 : Fin 1) (⟨(y 1).val, (y 1).isLt⟩ : Fin 512)

/-- An element lies in slot `d` when its first coordinate is `d`. -/
theorem slot_mem (d : Fin 32) (i : S32x1x512.Idx) : i ∈ (slotM d).view.set ↔ (i 0).val = d.val := by
  have h : (slotM d).view.set = (Rect.unit (s := S32x1x512) ![d.val, 0, 0] S1x1x512.size (inbSlot d)).set := by
    rw [Memref.set_view_squeeze]; exact View.set_slice_whole _ _
  rw [h, Rect.mem_set_unit]
  constructor
  · intro h
    have h0 := h 0
    have e1 : (![d.val, 0, 0] : Fin 3 → ℕ) 0 = d.val := rfl
    have e2 : S1x1x512.size 0 = 1 := rfl
    rw [e1, e2] at h0
    omega
  · intro h a
    have := (i a).isLt
    fin_cases a
    · show d.val ≤ (i 0).val ∧ (i 0).val < d.val + 1; omega
    · have h1 : (i 1).val < 1 := (i 1).isLt
      show 0 ≤ (i 1).val ∧ (i 1).val < 0 + 1; omega
    · have h2 : (i 2).val < 512 := (i 2).isLt
      show 0 ≤ (i 2).val ∧ (i 2).val < 0 + 512; omega

/-- Different slots have no element in common. -/
theorem slot_disjoint {d d' : Fin 32} (h : d ≠ d') : Disjoint (show Finset S32x1x512.Idx from (slotM d).view.set) (show Finset S32x1x512.Idx from (slotM d').view.set) :=
  Finset.disjoint_left.mpr fun i hi hi' => h (Fin.ext (((slot_mem d i).mp hi).symm.trans ((slot_mem d' i).mp hi')))
/-- The slots make up the whole buffer. -/
theorem slot_cover : (Finset.univ : Finset (Fin 32)).biUnion (fun d => (show Finset S32x1x512.Idx from (slotM d).view.set)) = Finset.univ := by
  ext i
  simp only [Finset.mem_biUnion, Finset.mem_univ, true_and, iff_true]
  exact ⟨⟨(i 0).val, (i 0).isLt⟩, (slot_mem _ i).mpr rfl⟩

/-- Reading slot `d` reads the buffer at that slot's elements. -/
theorem slot_read (d : Fin 32) (g : (cc0_scratch1 : Ref sig .tc).ty.Contents (Elt F)) (y : S1x512.Idx) :
    (slotM d).view.read (Elt F) g y = g (inSlot d y) := by
  rw [Memref.read_squeeze_slice cM (Rect.unit (s := S32x1x512) ![d.val, 0, 0] S1x1x512.size (inbSlot d)) (fun _ => rfl)
    squeezes_S1x1x512_S1x512 (show S1x1x512.ShapeCasts S1x512 by decide) g]
  refine (shapeCast_dropUnit_apply ![1, 512] _ _ y).trans ?_
  show g _ = g _
  congr 1
  funext a
  apply Fin.ext
  have h0 : (y 0).val = 0 := by have : (y 0).val < 1 := (y 0).isLt; omega
  fin_cases a
  · show d.val + 1 * 0 = d.val; omega
  · show 0 + 1 * (y 0).val = 0; omega
  · show 0 + 1 * (y 1).val = (y 1).val; omega

/-- The receive buffer of device `c` as a whole. -/
def commAny (c : Dev nD) : sProp 𝕄 :=
  iprop(∃ f : Buf (Elt F) ((c : Thread nD τ).loc cc0_scratch1), (c : Thread nD τ).loc cc0_scratch1 ↦{fullShare} f)

omit [FloatOps F] in
/-- The buffer with any contents is its slots with any contents. -/
theorem comm_slots (c : Dev nD) : commAny (F := F) c ⊢ bigSep Finset.univ (fun d => slotAny (F := F) c d) := by
  unfold commAny
  iintro ⟨%f, H⟩
  iapply (show ((c : Thread nD τ).loc cc0_scratch1 ↦{fullShare} f) ⊢ bigSep Finset.univ (fun d => slotAny (F := F) c d) from by
    have h := pointsTo_biUnion (Ix := Unit) (Name := ℕ) (U := UU) (Lvl := ℕ) (Val := Elt F) (ℓ := (c : Thread nD τ).loc cc0_scratch1) (q := fullShare) (f := f)
      (Finset.univ : Finset (Fin 32)) (fun d => (slotM d).view.set) (fun _ _ _ _ h => slot_disjoint h)
    refine (Entails.of_eq ((congrArg (fun S => ((c : Thread nD τ).loc cc0_scratch1 ↦[S]{fullShare} f : sProp 𝕄)) slot_cover.symm).trans h)).trans (bigSep_mono fun d _ => ?_)
    unfold slotAny
    exact Idealize.SL.BI.Laws.exists_intro_trans (Ψ := fun f : Buf (Elt F) ((slotM d).view.loc (c : Thread nD τ)) =>
      ((slotM d).view.loc (c : Thread nD τ) ↦[(slotM d).view.set]{fullShare} f : sProp 𝕄)) f .rfl)
  iexact H

/-- The slots a device does not give away for writing: those into which nothing will be copied. -/
def keptSlot (c : Dev nD) (d : Fin 32) : sProp 𝕄 := if 1 ≤ d.val ∧ d.val ≤ c.val then iprop(emp) else slotAny c d
/-- The slots that device `c` keeps for itself. -/
def kept (c : Dev nD) : sProp 𝕄 := bigSep Finset.univ (fun d => keptSlot (F := F) c d)
/-- The slots given away, by the offset of the signal that carries them. -/
def givenSlot (c : Dev nD) (d : Fin 32) : sProp 𝕄 := if 32 ≤ c.val + d.val then slotAny c (opp d) else iprop(emp)

set_option backward.proofsInPublic true in
/-- Turning every offset around, as a bijection. -/
def oppEquiv : Fin 32 ≃ Fin 32 := ⟨opp, opp, opp_opp, opp_opp⟩

omit [FloatOps F] in
/-- The buffer falls into the slots kept and the slots given away. -/
theorem comm_split (c : Dev nD) : commAny (F := F) c ⊢ iprop(kept (F := F) c ∗ bigSep (ups 1) (fun d => givenSlot (F := F) c d)) := by
  refine (comm_slots c).trans ?_
  have h1 : bigSep Finset.univ (fun d => slotAny (F := F) c d)
      ⊢ iprop(kept (F := F) c ∗ bigSep Finset.univ (fun d => givenSlot (F := F) c (opp d))) := by
    unfold kept
    rw [← bigSep_sep']
    refine bigSep_mono fun d _ => ?_
    unfold keptSlot givenSlot
    rw [opp_opp]
    have hd := d.isLt
    have hc := dev_lt c
    by_cases h : 1 ≤ d.val ∧ d.val ≤ c.val
    · rw [if_pos h, if_pos (by rw [opp_val]; omega)]
      exact emp_sep.2
    · rw [if_neg h, if_neg (by rw [opp_val]; omega)]
      exact sep_emp.2
  refine h1.trans (sep_mono_r ?_)
  refine (Entails.of_eq ((bigSep_univ_equiv oppEquiv (fun d => givenSlot (F := F) c d)).symm.trans (sep_univ _))).trans ?_
  iintro ⟨-, H⟩; iexact H

/-! ## Coming together again -/

/-- The receive buffer with every slot filled, whether or not there was a device to fill it. -/
def commC (c : Dev nD) : Vec F S32x1x512 .f32 := fun i => tot m ρ (fwd c (opp ⟨(i 0).val, (i 0).isLt⟩)) (ValueIdx.ix2 (0 : Fin 1) (⟨(i 2).val, (i 2).isLt⟩ : Fin 512))

/-- Contents of the receive buffer in which the slots to be filled have been. -/
def Agree (c : Dev nD) (g : (cc0_scratch1 : Ref sig .tc).ty.Contents (Elt F)) : Prop :=
  ∀ i : S32x1x512.Idx, 1 ≤ (i 0).val → (i 0).val ≤ c.val → g i = commC m ρ c i

/-- A slot at the end: right if it was to be filled. -/
def slotEnd (c : Dev nD) (d : Fin 32) : sProp 𝕄 :=
  iprop(∃ f : Buf (Elt F) ((c : Thread nD τ).loc cc0_scratch1),
    ⌜1 ≤ d.val → d.val ≤ c.val → ∀ i : S32x1x512.Idx, (i 0).val = d.val → (show S32x1x512.Idx → Elt F .f32 from f) i = commC m ρ c i⌝
    ∗ (c : Thread nD τ).loc cc0_scratch1 ↦[(slotM d).view.set]{fullShare} f)

/-- What the wait at one offset left of its slot. -/
def filled (c : Dev nD) (d : Fin 32) : sProp 𝕄 := if d.val ≤ c.val then slotFull (F := F) m ρ c d else iprop(emp)

/-- The buffer's final slot `d` holds the column sums of the device `d` back. -/
theorem commC_inSlot (c : Dev nD) (d : Fin 32) (y : S1x512.Idx) : commC m ρ c (inSlot d y) = tot m ρ (fwd c (opp d)) y := by
  unfold commC
  have h : (ValueIdx.ix2 (0 : Fin 1) (⟨(inSlot d y 2).val, (inSlot d y 2).isLt⟩ : Fin 512) : S1x512.Idx) = y := by
    funext a
    apply Fin.ext
    have h0 : (y 0).val < 1 := (y 0).isLt
    fin_cases a
    · show 0 = (y 0).val; omega
    · rfl
  exact congrArg (tot m ρ (fwd c (opp d))) h

/-- A slot that the mask throws away may end with anything. -/
theorem slot_end_any (c : Dev nD) (d : Fin 32) (h : ¬ (1 ≤ d.val ∧ d.val ≤ c.val)) : slotAny (F := F) c d ⊢ slotEnd m ρ c d := by
  unfold slotAny slotEnd
  iintro ⟨%f, H⟩
  iexists f; isplitr
  · ipureintro; exact fun h1 h2 => absurd ⟨h1, h2⟩ h
  iexact H
/-- A filled slot ends as it should. -/
theorem slot_end_full (c : Dev nD) (d : Fin 32) : slotFull m ρ c d ⊢ slotEnd m ρ c d := by
  unfold slotFull owns slotEnd
  iintro ⟨%f, %hf, H⟩
  iexists f; isplitr
  · ipureintro
    intro _ _ i hi
    have hy : i = inSlot d (ValueIdx.ix2 (0 : Fin 1) (⟨(i 2).val, (i 2).isLt⟩ : Fin 512)) := by
      funext a
      apply Fin.ext
      have h1 : (i 1).val < 1 := (i 1).isLt
      fin_cases a
      · exact hi
      · show (i 1).val = 0; omega
      · rfl
    rw [hy, commC_inSlot]
    exact (slot_read d f _).symm.trans (congrFun hf _)
  iexact H

/-- Kept or come back filled, a slot ends as it should. -/
theorem slot_end (c : Dev nD) (d : Fin 32) (hd : 1 ≤ d.val) : iprop(keptSlot (F := F) c d ∗ filled m ρ c d) ⊢ slotEnd m ρ c d := by
  unfold keptSlot filled
  by_cases h : d.val ≤ c.val
  · rw [if_pos ⟨hd, h⟩, if_pos h]
    exact Idealize.SL.BI.emp_sep.1.trans (slot_end_full m ρ c d)
  · rw [if_neg fun h' => h h'.2, if_neg h]
    exact Idealize.SL.BI.sep_emp.1.trans (slot_end_any m ρ c d fun h' => h h'.2)

/-- The slots kept and the slots come back make up the buffer again. -/
theorem comm_join (c : Dev nD) : iprop(kept (F := F) c ∗ bigSep (ups 1) (fun d => filled m ρ c d))
    ⊢ (iprop(∃ g : Buf (Elt F) ((c : Thread nD τ).loc cc0_scratch1), ⌜Agree m ρ c g⌝ ∗ (c : Thread nD τ).loc cc0_scratch1 ↦{fullShare} g) : sProp 𝕄) := by
  have h1 : iprop(kept (F := F) c ∗ bigSep (ups 1) (fun d => filled m ρ c d)) ⊢ bigSep Finset.univ (fun d => slotEnd m ρ c d) := by
    unfold kept
    rw [sep_univ, sep_univ]
    have h2 : bigSep (ups 1) (fun d => iprop(keptSlot (F := F) c d ∗ filled m ρ c d)) ⊢ bigSep (ups 1) (fun d => slotEnd m ρ c d) :=
      bigSep_mono fun d hd => slot_end m ρ c d (mem_ups.mp hd)
    rw [bigSep_sep'] at h2
    iintro ⟨⟨H0, Hk⟩, Hf⟩
    isplitl [H0]
    · iapply (slot_end_any m ρ c 0 (fun h => absurd h.1 (by decide)))
      iapply (Entails.of_eq (show keptSlot (F := F) c 0 = slotAny c 0 from if_neg fun h => absurd h.1 (by decide))); iexact H0
    iapply h2
    isplitl [Hk] <;> iassumption
  refine h1.trans ?_
  have : Nonempty (Buf (Elt F) ((c : Thread nD τ).loc cc0_scratch1)) := ⟨fun i => commC m ρ c i⟩
  unfold slotEnd
  refine (bigSep_exists_pi Finset.univ _).trans ?_
  iintro ⟨%fs, H⟩
  ihave H := (bigSep_pure_sep Finset.univ _ _) $$ H
  icases H with ⟨%hf, H⟩
  ihave H := (pointsTo_biUnion_join (Ix := Unit) (Name := ℕ) (U := UU) (Lvl := ℕ) (Val := Elt F) (ℓ := (c : Thread nD τ).loc cc0_scratch1) (q := fullShare)
    (Finset.univ : Finset (Fin 32)) (fun d => (slotM d).view.set) fs (fun i => commC m ρ c i) (fun _ _ _ _ h => slot_disjoint h)) $$ H
  icases H with ⟨%g, %hg, H⟩
  iexists g; isplitr
  · ipureintro
    intro i h1 h2
    have hi := (slot_mem ⟨(i 0).val, (i 0).isLt⟩ i).mpr rfl
    exact (hg _ (Finset.mem_univ _) i hi).trans (hf _ (Finset.mem_univ _) h1 h2 i rfl)
  iapply (show ((c : Thread nD τ).loc cc0_scratch1 ↦[(Finset.univ : Finset (Fin 32)).biUnion (fun d => (slotM d).view.set)]{fullShare} g : sProp 𝕄)
      ⊢ ((c : Thread nD τ).loc cc0_scratch1 ↦{fullShare} g) from
    Entails.of_eq (congrArg (fun S => ((c : Thread nD τ).loc cc0_scratch1 ↦[S]{fullShare} g : sProp 𝕄)) slot_cover))
  iexact H

/-! ## The masked sum -/

/-- The number of device `c`, as the kernel computes it. -/
abbrev v2w (c : Dev nD) : BitVec 32 := Scalar.remsi (Scalar.divsi (Dev.word c) 1#32) 32#32

/-- The printed place word is the device's number. -/
theorem v2w_eq (c : Dev nD) : v2w c = BitVec.ofNat 32 c.val := by revert c; decide +kernel

/-- The kernel's mask over the slots, for the device number `v`. -/
def slotMask (v : BitVec 32) : IVec S32x1x512 1 :=
  broadcastTo S32x1x512 (shapeCast S32x1x1
    (andi (cmpi .sge (iota .tc S32x1x1 32 [0] iota_S32x1x1_d0_w32) (broadcast S32x1x1 1#32))
      (cmpi .sle (iota .tc S32x1x1 32 [0] iota_S32x1x1_d0_w32) (broadcast S32x1x1 v)))
    shapeCasts_S32x1x1_S32x1x1) broadcasts_S32x1x1_S32x1x512

/-- The printed mask holds just at the offsets from 1 to the device's place. -/
theorem mask_words (a : Fin 32) (c : Dev nD) :
    IntOp.andi (IntOp.cmpi .sge (BitVec.ofNat 32 a.val) 1#32) (IntOp.cmpi .sle (BitVec.ofNat 32 a.val) (v2w c)) = (1 : BitVec 1)
      ↔ 1 ≤ a.val ∧ a.val ≤ c.val := by
  revert a c; decide +kernel

/-- At slot `i` the mask says whether the slot was to be filled. -/
theorem slotMask_iff (c : Dev nD) (i : S32x1x512.Idx) : slotMask (v2w c) i = (1 : BitVec 1) ↔ 1 ≤ (i 0).val ∧ (i 0).val ≤ c.val := by
  unfold slotMask
  rw [shapeCast_self, broadcastTo_apply _ _ i (ValueIdx.ix3 (⟨(i 0).val, (i 0).isLt⟩ : Fin 32) (0 : Fin 1) (0 : Fin 1)) (by
    intro a; fin_cases a <;> rfl)]
  refine Iff.trans (Eq.congr_left ?_) (mask_words ⟨(i 0).val, (i 0).isLt⟩ c)
  unfold andi cmpi
  rw [iota_single_apply]
  rfl

/-- The printed last step: the product plus the masked sum over the slots. -/
theorem pay3_eq (v : BitVec 32) (y : FVec F S1024x512 .f32) (g : Vec F S32x1x512 .f32) :
    k0_pay3 v y g = addf y (broadcastTo S1024x512 (multiReduction .add [0] S1x512
      (select (slotMask v) g (broadcast S32x1x512 (Scalar.ofBits .f32 0x00000000#32 : F .f32)) : FVec F S32x1x512 .f32) 0x00000000#32
      reduces_S32x1x512_S1x512 (.inl rfl) rfl) broadcasts_S1x512_S1024x512) := rfl

/-- The last step sees only the slots that were filled. -/
theorem pay3_congr (c : Dev nD) (y : FVec F S1024x512 .f32) (g : Vec F S32x1x512 .f32) (h : Agree m ρ c g) :
    k0_pay3 (v2w c) y g = k0_pay3 (v2w c) y (commC m ρ c) := by
  rw [pay3_eq, pay3_eq]
  congr 3
  funext i
  unfold select Scalar.select
  by_cases hi : slotMask (v2w c) i = (1 : BitVec 1)
  · have h' := (slotMask_iff c i).mp hi
    rw [if_pos hi, if_pos hi]
    exact h i h'.1 h'.2
  · rw [if_neg hi, if_neg hi]

/-- What device `c` puts out. -/
def outAt (c : Dev nD) : FVec F S1024x512 .f32 := k0_pay3 (v2w c) (k0_pay2 (xstg m ρ c)) (commC m ρ c)

end Cert.PrefixSum

end
-- ==== Proof.Sums.lean ====
/-
Sums over the rows of the whole array, cut into the 32 blocks of 1024 rows: the sum of the rows up to one row is the sum over the blocks before its own,
each in full, and the part of its own block.
-/
module

public import proofs.«01_k».proof.Proof.Slots
public import Idealize.ShloMosaic.PureOps.Ideal.Laws
public import Idealize.ShloMosaic.Lib.MatmulPlain

@[expose] public section

set_option maxRecDepth 16384

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A running sum over a list of all indices is the start plus the sum. -/
theorem foldl_sum {n : ℕ} (f : Fin n → EReal) (v : EReal) : (List.finRange n).foldl (fun r i => r + f i) v = v + ∑ i, f i := by
  have h : ∀ (l : List (Fin n)) (v : EReal), l.foldl (fun r i => r + f i) v = v + (l.map f).sum := by
    intro l
    induction l with
    | nil => intro v; simp
    | cons a l ih => intro v; rw [List.foldl_cons, ih, List.map_cons, List.sum_cons, add_assoc]
  rw [h, Fin.sum_univ_def]

set_option backward.proofsInPublic true in
/-- Row `k` of block `b`, as a row of the whole array. -/
def row (b : Fin 32) (k : Fin 1024) : Fin 32768 := ⟨b.val * 1024 + k.val, by omega⟩

set_option backward.proofsInPublic true in
/-- The rows of the whole array, as block and row in the block. -/
def rowEquiv : Fin 32 × Fin 1024 ≃ Fin 32768 where
  toFun p := row p.1 p.2
  invFun q := (⟨q.val / 1024, by omega⟩, ⟨q.val % 1024, by omega⟩)
  left_inv p := by
    rcases p with ⟨⟨b, hb⟩, ⟨k, hk⟩⟩
    simp only [row, Prod.mk.injEq, Fin.mk.injEq]
    omega
  right_inv q := by
    apply Fin.ext; simp only [row]; omega

/-- A sum over all rows, block by block. -/
theorem sum_rows (f : Fin 32768 → EReal) : ∑ q, f q = ∑ b : Fin 32, ∑ k : Fin 1024, f (row b k) := by
  rw [← Equiv.sum_comp rowEquiv f, Fintype.sum_prod_type]; rfl

set_option backward.proofsInPublic true in
/-- The devices before `c`, by how far before: an offset and the device it leads back to. -/
def backEquiv (c : Dev nD) : Fin 32 ≃ Dev nD where
  toFun d := fwd c (opp d)
  invFun b := ⟨(c.val + 32 - b.val) % 32, Nat.mod_lt _ (by decide)⟩
  left_inv d := by
    apply Fin.ext; have := d.isLt; have := dev_lt c; simp only [fwd_val, opp_val]; omega
  right_inv b := by
    apply Fin.ext; have := dev_lt b; have := dev_lt c; simp only [fwd_val, opp_val]; omega

/-- The device `d` back lies before `c` when `d` is between 1 and `c`. -/
theorem back_lt (c : Dev nD) (d : Fin 32) : (fwd c (opp d)).val < c.val ↔ 1 ≤ d.val ∧ d.val ≤ c.val := by
  have := d.isLt; have := dev_lt c; simp only [fwd_val, opp_val]; omega

/-- A masked sum over the offsets is the sum over the earlier devices. -/
theorem sum_back (c : Dev nD) (T : Dev nD → EReal) :
    (∑ d : Fin 32, if 1 ≤ d.val ∧ d.val ≤ c.val then T (fwd c (opp d)) else 0) = ∑ b : Dev nD, if b.val < c.val then T b else 0 := by
  rw [← Equiv.sum_comp (backEquiv c) (fun b : Dev nD => if b.val < c.val then T b else 0)]
  exact Finset.sum_congr rfl fun d _ => if_congr (back_lt c d).symm rfl rfl

/-- The sum of the rows up to row `r` of block `c`. -/
theorem sum_upto (X : Fin 32768 → EReal) (c : Dev nD) (r : Fin 1024) :
    (∑ q : Fin 32768, if q.val ≤ (row c r).val then X q else 0)
      = (∑ k : Fin 1024, if k.val ≤ r.val then X (row c k) else 0)
        + ∑ d : Fin 32, if 1 ≤ d.val ∧ d.val ≤ c.val then ∑ k : Fin 1024, X (row (fwd c (opp d)) k) else 0 := by
  rw [sum_back c fun b => ∑ k : Fin 1024, X (row b k), sum_rows]
  have h : ∀ b : Fin 32, (∑ k : Fin 1024, if (row b k).val ≤ (row c r).val then X (row b k) else 0)
      = (if b = c then ∑ k : Fin 1024, (if k.val ≤ r.val then X (row c k) else 0) else 0)
        + (if b.val < c.val then ∑ k : Fin 1024, X (row b k) else 0) := by
    intro b
    have hr := r.isLt
    rcases lt_trichotomy b.val c.val with hb | hb | hb
    · rw [if_neg (fun e : b = c => by rw [e] at hb; omega), if_pos hb, zero_add]
      exact Finset.sum_congr rfl fun k _ => if_pos (by have := k.isLt; simp only [row]; omega)
    · obtain rfl : b = c := Fin.ext hb
      rw [if_pos rfl, if_neg (lt_irrefl _), add_zero]
      exact Finset.sum_congr rfl fun k _ => if_congr (by simp only [row]; omega) rfl rfl
    · rw [if_neg (fun e : b = c => by rw [e] at hb; omega), if_neg (by omega), zero_add]
      exact Finset.sum_eq_zero fun k _ => if_neg (by simp only [row]; omega)
  rw [Finset.sum_congr rfl fun b _ => h b, Finset.sum_add_distrib, Finset.sum_ite_eq' Finset.univ c]
  rw [if_pos (Finset.mem_univ _)]

end Cert.PrefixSum

end
-- ==== Proof.Value.lean ====
/-
What the kernel puts out, over the extended reals: at row `r` of block `c`, the sum of the rows of the whole array up to that row.
-/
module

public import proofs.«01_k».proof.Proof.Sums

@[expose] public section

set_option maxRecDepth 16384

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.ValueIdx

/-- The word the comparison of two row numbers leaves, as a number. -/
theorem below_word (r k : Fin 1024) :
    ((((IntOp.cmpi .sge (BitVec.ofNat 32 r.val) (BitVec.ofNat 32 k.val)).setWidth 32).toInt : ℝ) : EReal) = if k.val ≤ r.val then 1 else 0 := by
  have hr := r.isLt
  have hk := k.isLt
  have e : (BitVec.ofNat 32 k.val).sle (BitVec.ofNat 32 r.val) = decide (k.val ≤ r.val) := by
    have h (x : ℕ) (hx : x < 1024) : (BitVec.ofNat 32 x).toInt = (x : ℤ) := by
      rw [BitVec.toInt_eq_toNat_of_lt (by rw [BitVec.toNat_ofNat]; omega), BitVec.toNat_ofNat, Nat.mod_eq_of_lt (by omega)]
    unfold BitVec.sle
    rw [h _ hr, h _ hk]
    exact decide_eq_decide.mpr Int.ofNat_le
  unfold IntOp.cmpi
  dsimp only
  rw [e]
  by_cases h : k.val ≤ r.val
  · rw [if_pos h, decide_eq_true h]
    rw [show ((BitVec.ofBool true).setWidth 32).toInt = 1 by decide]; norm_num
  · rw [if_neg h, decide_eq_false h]
    rw [show ((BitVec.ofBool false).setWidth 32).toInt = 0 by decide]; norm_num

/-- The printed product is a plain matrix product. -/
theorem dot_plain : dot_S1024x1024_S1024x512_S1024x512_1_0_0_1_n_n = DotDims.plain 1024 1024 512 := rfl

/-- The product with the triangle of ones sums each column up to the row. -/
theorem pay2_apply (x : Vec Ideal S1024x512 .f32) (r : Fin 1024) (j : Fin 512) :
    k0_pay2 (F := Ideal) x (ix2 r j) = ∑ k : Fin 1024, if k.val ≤ r.val then x (ix2 k j) else 0 := by
  unfold k0_pay2
  dsimp only
  rw [shapeCast_self, dot_plain]
  unfold matmul
  rw [Ideal.matmul_plain_apply]
  rw [show constant (F := Ideal) S1024x512 .f32 0x00000000#32 (ix2 r j) = 0 from Ideal.ofBits_zero_f32, zero_add]
  refine Finset.sum_congr rfl fun k _ => ?_
  refine (congrArg (fun a : EReal => a * x (ix2 k j)) ?_ : _ = (if k.val ≤ r.val then (1 : EReal) else 0) * x (ix2 k j)).trans ?_
  · refine Eq.trans ?_ (below_word r k)
    unfold truncf sitofp extui cmpi
    rw [iota_single_apply, iota_single_apply]
    rfl
  · split
    · exact one_mul _
    · exact zero_mul _

/-- The column sums of a block. -/
theorem pay1_apply (x : Vec Ideal S1024x512 .f32) (j : Fin 512) :
    k0_pay1 (F := Ideal) x (ix2 (0 : Fin 1) j) = ∑ k : Fin 1024, x (ix2 k j) := by
  unfold k0_pay1
  dsimp only
  rw [shapeCast_self, shapeCast_apply _ _ (ix2 (0 : Fin 1) j) (ix1 j) (by
    rw [Shape.rowMajor_val_two, Shape.rowMajor_val_one]; show j.val = 0 * 512 + j.val; omega)]
  refine (Ideal.multiReduction_add_single _ _ _ _ _ _).trans ?_
  refine Finset.sum_congr rfl fun k _ => congrArg x ?_
  funext a
  fin_cases a <;> rfl

/-- What the last payload adds. -/
theorem pay3_apply (c : Dev nD) (y : FVec Ideal S1024x512 .f32) (g : Vec Ideal S32x1x512 .f32) (r : Fin 1024) (j : Fin 512) :
    k0_pay3 (F := Ideal) (v2w c) y g (ix2 r j)
      = y (ix2 r j) + ∑ d : Fin 32, if 1 ≤ d.val ∧ d.val ≤ c.val then g (ix3 d (0 : Fin 1) j) else 0 := by
  rw [pay3_eq]
  refine congrArg (y (ix2 r j) + ·) ?_
  rw [broadcastTo_apply _ _ (ix2 r j) (ix2 (0 : Fin 1) j) (by intro a; fin_cases a <;> rfl)]
  refine (Ideal.multiReduction_add_single _ _ _ _ _ _).trans ?_
  refine Finset.sum_congr rfl fun d _ => ?_
  rw [show reduces_S32x1x512_S1x512.lift (ix2 (0 : Fin 1) j) d = ix3 d (0 : Fin 1) j by funext a; fin_cases a <;> rfl]
  change Fin 32 at d
  show (if slotMask (v2w c) (ix3 d (0 : Fin 1) j) = (1 : BitVec 1) then g (ix3 d (0 : Fin 1) j) else (Scalar.ofBits .f32 0x00000000#32 : Ideal .f32)) = _
  by_cases h : 1 ≤ d.val ∧ d.val ≤ c.val
  · rw [if_pos h, if_pos ((slotMask_iff c _).mpr h)]
  · rw [if_neg h, if_neg fun e => h ((slotMask_iff c _).mp e)]
    exact Ideal.ofBits_zero_f32

variable (m : (ℓ : Loc nD τ sig) → Buf (Elt Ideal) ℓ) (ρ : Dev nD → PrngReg)

/-- The output of device `c`, from the devices' blocks. -/
theorem outAt_apply (c : Dev nD) (X : Fin 32768 → Fin 512 → EReal) (hX : ∀ (b : Dev nD) (k : Fin 1024) (j : Fin 512), xstg m ρ b (ix2 k j) = X (row b k) j)
    (r : Fin 1024) (j : Fin 512) :
    outAt m ρ c (ix2 r j) = ∑ q : Fin 32768, if q.val ≤ (row c r).val then X q j else 0 := by
  unfold outAt
  rw [pay3_apply, pay2_apply, sum_upto (fun q => X q j)]
  refine congrArg₂ (· + ·) (Finset.sum_congr rfl fun k _ => by rw [hX]) (Finset.sum_congr rfl fun d _ => if_congr Iff.rfl ?_ rfl)
  refine (pay1_apply (xstg m ρ (fwd c (opp d))) j).trans ?_
  exact Finset.sum_congr rfl fun k _ => hX _ _ _

end Cert.PrefixSum

end
-- ==== Proof.Loops.lean ====
/-
The kernel's five written-out loops over the offsets: the first handshake, the copies, the waits for copies from
others, the waits for one's own copies, the second handshake. One lemma each takes one offset off the program.
-/
module

public import proofs.«01_k».proof.Proof.Slots

@[expose] public section

set_option maxRecDepth 16384

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Kind → ℕ)

/-! ## The loops -/

/-- The first handshake. -/
def L1 (c : Dev nD) (n : ℕ) : sProp 𝕄 :=
  Loop m ρ K c (fun n => O₁ c + ∑ d ∈ ups n, tBar c d) (fun d => sigIn c d) (fun _ => iprop(emp)) n
/-- The copies. -/
def L2 (c : Dev nD) (n : ℕ) : sProp 𝕄 :=
  Loop m ρ K c (fun n => O₂ c + ∑ d ∈ ups n, tSend c d) (fun d => sendIn m ρ c d) (fun d => sent m ρ c d) n
/-- The waits for copies from other devices. -/
def L3 (c : Dev nD) (n : ℕ) : sProp 𝕄 := Loop m ρ K c (fun _ => O₂ c) (fun d => recvIn c d) (fun d => recvOut m ρ c d) n
/-- The waits for one's own copies to have left. -/
def L4 (c : Dev nD) (n : ℕ) : sProp 𝕄 := Loop m ρ K c (fun _ => O₂ c) (fun d => flyIn m ρ c d) (fun d => flyOut m ρ c d) n
/-- The second handshake. -/
def L5 (c : Dev nD) (n : ℕ) : sProp 𝕄 :=
  Loop m ρ K c (fun n => ∑ d ∈ ups n, tBar2 c d) (fun d => dutyTok ER (bar2Cell (fwd c d)) 0 (opp d)) (fun _ => iprop(emp)) n

/-! ## One offset -/

variable {β : Type} {k : PUnit.{1} → PP F β} {Q : β → sProp 𝕄} {R : sProp 𝕄}

/-- Takes one signal of the first handshake off the program. -/
theorem sig_step {β : Type} {k : PUnit.{1} → PP F β} {Q : β → sProp 𝕄} {R : sProp 𝕄} (c : Dev nD) (n : ℕ) (hn : 1 ≤ n ∧ n < 32)
    (dst : Dev nD) (hdst : dst = fwd c ⟨n, hn.2⟩)
    (next : iprop(L1 m ρ K c (n + 1) ∗ R) ⊢ Run c (k ⟨⟩) Q) :
    iprop(L1 m ρ K c n ∗ R) ⊢ Run c (semSignalWord (dst : Dev nD) barS 1#32 >>= k) Q := by
  subst hdst
  refine loop_step m ρ K c (fun n => O₁ c + ∑ d ∈ ups n, tBar c d) (fun d => sigIn c d) (fun _ => iprop(emp)) ⟨n, hn.2⟩ hn.1 (fun W => ?_) (fun _ => next)
  dsimp only
  rw [sum_ups ⟨n, hn.2⟩, ← add_assoc]
  exact sig_one m ρ K c ⟨n, hn.2⟩ hn.1 _ W

/-- Takes one signal of the second handshake off the program. -/
theorem sig2_step {β : Type} {k : PUnit.{1} → PP F β} {Q : β → sProp 𝕄} {R : sProp 𝕄} (c : Dev nD) (n : ℕ) (hn : 1 ≤ n ∧ n < 32)
    (dst : Dev nD) (hdst : dst = fwd c ⟨n, hn.2⟩)
    (next : iprop(L5 m ρ K c (n + 1) ∗ R) ⊢ Run c (k ⟨⟩) Q) :
    iprop(L5 m ρ K c n ∗ R) ⊢ Run c (semSignalWord (dst : Dev nD) bar2S 1#32 >>= k) Q := by
  subst hdst
  refine loop_step m ρ K c (fun n => ∑ d ∈ ups n, tBar2 c d) (fun d => dutyTok ER (bar2Cell (fwd c d)) 0 (opp d)) (fun _ => iprop(emp)) ⟨n, hn.2⟩ hn.1 (fun W => ?_) (fun _ => next)
  dsimp only
  rw [sum_ups ⟨n, hn.2⟩]
  exact sig2_one m ρ K c ⟨n, hn.2⟩ hn.1 _ W

/-- Takes one conditional copy off the program. -/
theorem send_step {β : Type} {k : PP F β} {Q : β → sProp 𝕄} {R : sProp 𝕄} (c : Dev nD) (n : ℕ) (hn : 1 ≤ n ∧ n < 32)
    (b : BitVec 1) (hb : b = 1#1 ↔ c.val + n < 32) (dst : b = 1#1 → Dev nD) (hdst : ∀ h, dst h = fwd c ⟨n, hn.2⟩)
    {hsc : ∀ h, (slotM ⟨n, hn.2⟩ : Memref sig (Dev.tc (dst h) : Thread nD τ).2.kind .vmem S1x512 .f32).view.ref.isScScratch = false}
    {hsrc : (tM : Memref sig .tc .vmem S1x512 .f32).view.WordExact}
    {hdw : ∀ h, (slotM ⟨n, hn.2⟩ : Memref sig (Dev.tc (dst h) : Thread nD τ).2.kind .vmem S1x512 .f32).view.WordExact}
    {hsem : ∀ h, DmaTarget.Typed .vmem (.dma (recvS ⟨n, hn.2⟩)) (.remote (Dev.tc (dst h) : Thread nD τ) (slotM ⟨n, hn.2⟩) (.dma (sendS ⟨n, hn.2⟩)) (hsc h))}
    (next : iprop(L2 m ρ K c (n + 1) ∗ R) ⊢ Run c k Q) :
    iprop(L2 m ρ K c n ∗ R) ⊢ Run c (dite (b = 1#1)
        (fun h => Prog.lift (.enqueueDma tM (.remote (Dev.tc (dst h)) (slotM ⟨n, hn.2⟩) (.dma (sendS ⟨n, hn.2⟩)) (hsc h)) (.dma (recvS ⟨n, hn.2⟩)) hsrc (hdw h) (hsem h)) >>= fun _ => k)
        (fun _ => k)) Q := by
  rw [dite_bind]
  refine loop_step m ρ K c (fun n => O₂ c + ∑ d ∈ ups n, tSend c d) (fun d => sendIn m ρ c d) (fun d => sent m ρ c d) ⟨n, hn.2⟩ hn.1 (fun W => ?_) (fun _ => next)
  dsimp only
  rw [sum_ups ⟨n, hn.2⟩, ← add_assoc]
  exact send_one m ρ K c ⟨n, hn.2⟩ hn.1 _ W b hb dst hdst

/-- Takes one conditional wait for a copy coming in off the program. -/
theorem recv_step {β : Type} {k : PP F β} {Q : β → sProp 𝕄} {R : sProp 𝕄} (c : Dev nD) (n : ℕ) (hn : 1 ≤ n ∧ n < 32)
    (b : BitVec 1) (hb : b = 1#1 ↔ n ≤ c.val)
    {hsrc : (tM : Memref sig .tc .vmem S1x512 .f32).view.WordExact} {hdw : (slotM ⟨n, hn.2⟩).view.WordExact}
    (next : iprop(L3 m ρ K c (n + 1) ∗ R) ⊢ Run c k Q) :
    iprop(L3 m ρ K c n ∗ R) ⊢ Run c (dite (b = 1#1)
        (fun _ => Prog.lift (.waitDma2 (recvS ⟨n, hn.2⟩) tM (slotM ⟨n, hn.2⟩) hsrc hdw) >>= fun _ => k) (fun _ => k)) Q := by
  rw [dite_bind]
  exact loop_step m ρ K c (fun _ => O₂ c) (fun d => recvIn c d) (fun d => recvOut m ρ c d) ⟨n, hn.2⟩ hn.1 (fun W => recv_one m ρ K c ⟨n, hn.2⟩ hn.1 _ (above_O₂ c) W b hb) (fun _ => next)

/-- Takes one conditional wait for a copy going out off the program. -/
theorem fly_step {β : Type} {k : PP F β} {Q : β → sProp 𝕄} {R : sProp 𝕄} (c : Dev nD) (n : ℕ) (hn : 1 ≤ n ∧ n < 32)
    (b : BitVec 1) (hb : b = 1#1 ↔ c.val + n < 32)
    {hsrc : (slotM ⟨n, hn.2⟩).view.WordExact} {hdw : (tM : Memref sig .tc .vmem S1x512 .f32).view.WordExact}
    (next : iprop(L4 m ρ K c (n + 1) ∗ R) ⊢ Run c k Q) :
    iprop(L4 m ρ K c n ∗ R) ⊢ Run c (dite (b = 1#1)
        (fun _ => Prog.lift (.waitDma2 (sendS ⟨n, hn.2⟩) (slotM ⟨n, hn.2⟩) tM hsrc hdw) >>= fun _ => k) (fun _ => k)) Q := by
  rw [dite_bind]
  exact loop_step m ρ K c (fun _ => O₂ c) (fun d => flyIn m ρ c d) (fun d => flyOut m ρ c d) ⟨n, hn.2⟩ hn.1 (fun W => fly_one m ρ K c ⟨n, hn.2⟩ hn.1 _ (above_O₂ c) W b hb) (fun _ => next)

end Cert.PrefixSum

end
-- ==== Proof.Middle.lean ====
/-
What the kernel does between its loops over the offsets: it stores its column sums and waits for the first handshake;
it loads its block for the product; it takes the receive buffer back and loads it; it stores the result; it waits for
the second handshake and every cell it owns is closed.
-/
module

public import proofs.«01_k».proof.Proof.Loops

@[expose] public section

set_option maxRecDepth 16384

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Kind → ℕ)

/-! ## What a device holds beside the loop it is in -/

/-- The staged argument block with its contents. -/
def xPts (c : Dev nD) : sProp 𝕄 := (c : Thread nD τ).loc cc0_stg0_0 ↦{fullShare} xstg m ρ c
/-- The staged result block with contents `w`. -/
def oPts (c : Dev nD) (w : (cc0_stg1_0 : Ref sig .tc).ty.Contents (Elt F)) : sProp 𝕄 := (c : Thread nD τ).loc cc0_stg1_0 ↦{fullShare} w
/-- The staged result block with any contents. -/
def oAny (c : Dev nD) : sProp 𝕄 := iprop(∃ w, oPts (F := F) c w)
/-- The buffer of the column sums with any contents. -/
def tAny (c : Dev nD) : sProp 𝕄 :=
  iprop(∃ f : Buf (Elt F) ((c : Thread nD τ).loc cc0_scratch0), (c : Thread nD τ).loc cc0_scratch0 ↦{fullShare} f)

/-- The position at the start of a cell. -/
abbrev atStart (c : Dev nD) (k : Kind) : sProp 𝕄 := atPos ER (cellAt c k) 0 ∅ 0
/-- The tokens of the two duties a copy pays. -/
def sendToks (c : Dev nD) (d : Fin 32) : sProp 𝕄 :=
  iprop(dutyTok ER (recvCell (fwd c d) d) 0 (0 : Fin 32) ∗ dutyTok ER (sendCell c d) 0 (0 : Fin 32))
/-- What the end of the kernel needs. -/
def fin5 (c : Dev nD) : sProp 𝕄 :=
  iprop(cred (tallyAt (cellAt c kBar2) () 31) ∗ atStart (F := F) c kBar2 ∗ atStart c (kSend 0) ∗ atStart c (kRecv 0))
/-- What is set aside for the second handshake. -/
def tail5 (c : Dev nD) : sProp 𝕄 :=
  iprop(bigSep (ups 1) (fun d => (dutyTok ER (bar2Cell (fwd c d)) 0 (opp d) : sProp 𝕄)) ∗ fin5 (F := F) c)
/-- The two shares of the column sums that are never lent. -/
def totRest (c : Dev nD) : sProp 𝕄 := iprop(totPts m ρ c (Transfers.shareDrop fullShare 32) ∗ totPts m ρ c (lent 0))

/-- What a device holds beside the first loop. -/
def R1 (c : Dev nD) : sProp 𝕄 :=
  iprop(xPts m ρ c ∗ oAny (F := F) c ∗ tAny (F := F) c ∗ kept (F := F) c ∗ (cred (tallyAt (cellAt c kBar) () 31) ∗ atStart (F := F) c kBar)
    ∗ bigSep (ups 1) (fun d => sendToks (F := F) c d) ∗ bigSep (ups 1) (fun d => recvIn (F := F) c d)
    ∗ bigSep (ups 1) (fun d => atStart (F := F) c (kSend d)) ∗ tail5 (F := F) c)
/-- What a device holds beside the copies. -/
def R2 (c : Dev nD) : sProp 𝕄 :=
  iprop(xPts m ρ c ∗ oAny (F := F) c ∗ totRest m ρ c ∗ kept (F := F) c ∗ spent (F := F) m ρ c kBar
    ∗ bigSep (ups 1) (fun d => recvIn (F := F) c d) ∗ bigSep (ups 1) (fun d => atStart (F := F) c (kSend d)) ∗ tail5 (F := F) c)
/-- What a device holds beside the waits for copies coming in. -/
def R3 (c : Dev nD) : sProp 𝕄 :=
  iprop(xPts m ρ c ∗ oAny (F := F) c ∗ totRest m ρ c ∗ kept (F := F) c ∗ spent (F := F) m ρ c kBar
    ∗ bigSep (ups 1) (fun d => flyIn (F := F) m ρ c d) ∗ tail5 (F := F) c)
/-- While the copies are waited for, with the output buffer as `o` says. -/
def R4 (c : Dev nD) (o : sProp 𝕄) : sProp 𝕄 :=
  iprop(xPts m ρ c ∗ o ∗ totRest m ρ c ∗ commAny (F := F) c ∗ spent (F := F) m ρ c kBar
    ∗ bigSep (ups 1) (fun d => spent (F := F) m ρ c (kRecv d)) ∗ tail5 (F := F) c)
/-- What a device holds beside the second handshake. -/
def R5 (c : Dev nD) (o : sProp 𝕄) : sProp 𝕄 :=
  iprop(xPts m ρ c ∗ o ∗ tAny (F := F) c ∗ commAny (F := F) c ∗ spent (F := F) m ρ c kBar
    ∗ bigSep (ups 1) (fun d => spent (F := F) m ρ c (kRecv d)) ∗ bigSep (ups 1) (fun d => spent (F := F) m ρ c (kSend d)) ∗ fin5 (F := F) c)
/-- At the end. -/
def Done (c : Dev nD) (o : sProp 𝕄) : sProp 𝕄 :=
  iprop(ow c 0 ∗ xPts m ρ c ∗ o ∗ tAny (F := F) c ∗ commAny (F := F) c ∗ bigSep Finset.univ (fun k : Kind => semVal (cellAt c k) 0))

/-! ## Whole-buffer accesses -/

/-- The whole of a block. -/
abbrev rX : Rect S1024x512 := Rect.unit (s := S1024x512) ![0, 0] S1024x512.size inb_S1024x512_S1024x512_0_0
/-- The whole of the column sums. -/
abbrev rT : Rect S1x512 := Rect.unit (s := S1x512) ![0, 0] S1x512.size inb_S1x512_S1x512_0_0
/-- The whole of the receive buffer. -/
abbrev rC : Rect S32x1x512 := Rect.unit (s := S32x1x512) ![0, 0, 0] S32x1x512.size inb_S32x1x512_S32x1x512_0_0_0

omit [FloatOps F] in
/-- Two zero offsets are the constant zero. -/
theorem hz2 : (![0, 0] : Fin 2 → Nat) = fun _ => 0 := funext fun a => by fin_cases a <;> rfl
omit [FloatOps F] in
/-- Three zero offsets are the constant zero. -/
theorem hz3 : (![0, 0, 0] : Fin 3 → Nat) = fun _ => 0 := funext fun a => by fin_cases a <;> rfl
omit [FloatOps F] in
/-- Loading the whole argument block gives its contents. -/
theorem read_x (f : (cc0_stg0_0 : Ref sig .tc).ty.Contents (Elt F)) : xM.view.readAt (Elt F) rX.toLoadRect f = f :=
  Memref.readAt_unit_zero (Elt F) cc0_stg0_0 hz2 _ f
omit [FloatOps F] in
/-- Loading the whole receive buffer gives its contents. -/
theorem read_c (f : (cc0_scratch1 : Ref sig .tc).ty.Contents (Elt F)) : cM.view.readAt (Elt F) rC.toLoadRect f = f :=
  Memref.readAt_unit_zero (Elt F) cc0_scratch1 hz3 _ f
omit [FloatOps F] in
/-- Storing a whole result block replaces its contents. -/
theorem write_o (f w : (cc0_stg1_0 : Ref sig .tc).ty.Contents (Elt F)) :
    (oM.access rX : View sig .tc _ _ _).write (Elt F) f w Finset.univ = w :=
  Memref.write_access_unit_zero_univ (Elt F) cc0_stg1_0 hz2 _ f w
omit [FloatOps F] in
/-- Storing all column sums replaces their buffer's contents. -/
theorem write_t (f w : (cc0_scratch0 : Ref sig .tc).ty.Contents (Elt F)) :
    (tM.access rT : View sig .tc _ _ _).write (Elt F) f w Finset.univ = w :=
  Memref.write_access_unit_zero_univ (Elt F) cc0_scratch0 hz2 _ f w

/-! ## The column sums, by shares -/

/-- The whole of the column sums is the two shares kept and one share for each offset. -/
theorem tot_split (c : Dev nD) : ((c : Thread nD τ).loc cc0_scratch0 ↦{fullShare} tot m ρ c : sProp 𝕄)
    ⊢ iprop(totRest m ρ c ∗ bigSep (ups 1) (fun d => totPts m ρ c (lent d))) := by
  have h := Transfers.pointsTo_toks_split (Ix := Unit) (Name := ℕ) (U := UU) (Lvl := ℕ) (ℓ := (c : Thread nD τ).loc cc0_scratch0) (S := Finset.univ) (f := tot m ρ c) fullShare 32
  refine h.trans ?_
  rw [sep_univ]
  unfold totRest totPts
  simp only [Memref.view_whole, View.set_whole]
  exact Laws.sep_assoc.2
/-- The shares lent to the copies and the one kept make up the buffer of the column sums. -/
theorem tot_join (c : Dev nD) : iprop(totRest m ρ c ∗ bigSep (ups 1) (fun d => totPts m ρ c (lent d)))
    ⊢ ((c : Thread nD τ).loc cc0_scratch0 ↦{fullShare} tot m ρ c : sProp 𝕄) := by
  have h := Transfers.pointsTo_toks_join (Ix := Unit) (Name := ℕ) (U := UU) (Lvl := ℕ) (ℓ := (c : Thread nD τ).loc cc0_scratch0) (S := Finset.univ) (f := tot m ρ c) fullShare 32
  refine BI.Entails.trans ?_ h
  rw [sep_univ]
  unfold totRest totPts
  simp only [Memref.view_whole, View.set_whole]
  show (_ : sProp 𝕄) ⊢ _
  iintro ⟨⟨Ha, Hb⟩, Hc⟩
  isplitl [Ha]; · iexact Ha
  isplitl [Hb] <;> iassumption

/-! ## Between the loops -/

/-- The first handshake's loop, done: its debts are paid. -/
theorem L1_end (c : Dev nD) : L1 m ρ K c 32 ⊢ iprop(pers m ρ K ∗ ow c (O₁ c)) := by
  unfold L1 Loop
  dsimp only
  rw [ups_end, Finset.sum_empty, add_zero]
  iintro ⟨#Hp, HO, -, -⟩
  isplitr; · iexact Hp
  iexact HO
/-- The loop of the copies, done: every offset's outcome is at hand. -/
theorem L2_end (c : Dev nD) : L2 m ρ K c 32 ⊢ iprop(pers m ρ K ∗ ow c (O₂ c) ∗ bigSep (ups 1) (fun d => sent m ρ c d)) := by
  unfold L2 Loop
  dsimp only
  rw [ups_end, Finset.sum_empty, add_zero, downs_end]
  iintro ⟨#Hp, HO, -, H⟩
  isplitr; · iexact Hp
  isplitl [HO] <;> iassumption
/-- The loop of the waits for copies coming in, done. -/
theorem L3_end (c : Dev nD) : L3 m ρ K c 32 ⊢ iprop(pers m ρ K ∗ ow c (O₂ c) ∗ bigSep (ups 1) (fun d => recvOut m ρ c d)) := by
  unfold L3 Loop
  rw [downs_end]
  iintro ⟨#Hp, HO, -, H⟩
  isplitr; · iexact Hp
  isplitl [HO] <;> iassumption
/-- The loop of the waits for copies going out, done. -/
theorem L4_end (c : Dev nD) : L4 m ρ K c 32 ⊢ iprop(pers m ρ K ∗ ow c (O₂ c) ∗ bigSep (ups 1) (fun d => flyOut m ρ c d)) := by
  unfold L4 Loop
  rw [downs_end]
  iintro ⟨#Hp, HO, -, H⟩
  isplitr; · iexact Hp
  isplitl [HO] <;> iassumption
/-- The second handshake's loop, done: nothing is owed. -/
theorem L5_end (c : Dev nD) : L5 m ρ K c 32 ⊢ iprop(pers m ρ K ∗ ow c 0) := by
  unfold L5 Loop
  dsimp only
  rw [ups_end, Finset.sum_empty]
  iintro ⟨#Hp, HO, -, -⟩
  isplitr; · iexact Hp
  iexact HO

/-- A loop at its first offset. -/
theorem loop_start (c : Dev nD) (Ow : ℕ → CellTallies nD τ sig Unit) (In Out : Fin 32 → sProp 𝕄) :
    iprop(pers m ρ K ∗ ow c (Ow 1) ∗ bigSep (ups 1) In) ⊢ Loop m ρ K c Ow In Out 1 := by
  unfold Loop
  rw [downs_one, bigSep_empty]
  iintro ⟨#Hp, HO, H⟩
  isplitr; · iexact Hp
  isplitl [HO]; · iexact HO
  isplitl [H]; · iexact H
  iempintro

/-- Between the first loop and the copies: store the column sums and wait for the barrier. -/
theorem mid1 {β : Type} {k : PUnit.{1} → PP F β} {Q : β → sProp 𝕄} (c : Dev nD)
    {hx : (xM : Memref sig .tc .vmem S1024x512 .f32).view.LoadsAt rX.toLoadRect}
    {ht : (tM : Memref sig .tc .vmem S1x512 .f32).view.LoadsAt rT.toLoadRect} {hs hs'}
    (next : iprop(L2 m ρ K c 1 ∗ R2 m ρ c) ⊢ Run c (k ⟨⟩) Q) :
    iprop(L1 m ρ K c 32 ∗ R1 m ρ c) ⊢ Run c (Prog.lift (.load xM rX.toLoadRect hx) >>= fun v => Prog.lift (.load tM rT.toLoadRect ht)
      >>= fun _ => Prog.lift (.store tM rT (k0_pay1 v) Finset.univ hs hs') >>= fun _ => semWaitWord barS 31#32 >>= k) Q := by
  simp only [Prog.lift, Prog.bind_op, Prog.bind_ret]
  unfold R1 tAny xPts
  iintro ⟨HL, Hx, Ho, ⟨%t0, Ht⟩, Hk, ⟨Hc, Hat⟩, Hst, Hri, Has, H5⟩
  ihave HL := (L1_end m ρ K c) $$ HL
  icases HL with ⟨#Hp, HO⟩
  iapply (wp_load 𝒱₀ (c : Thread nD τ) none Set.univ (m := xM) (Finset.subset_univ _)) $$ Hx; iintro Hx
  rw [read_x]
  iapply (wp_load 𝒱₀ (c : Thread nD τ) none Set.univ (m := tM) (Finset.subset_univ _)) $$ Ht; iintro Ht
  iapply (wp_store 𝒱₀ (c : Thread nD τ) none Set.univ (m := tM) (r := rT) (Mk := Finset.univ) (Finset.subset_univ _)) $$ Ht; iintro Ht
  rw [write_t, wp_bind]
  iapply (wp_wand_r frame (wpE (defs₀ (F := F)) 𝒱₀ (c : Thread nD τ) none) Set.univ
    (Q := fun _ => iprop(ow c (O₁ c) ∗ spent (F := F) m ρ c kBar ∗ bigSep (ups 1) (fun e => payK m ρ c kBar e))))
  isplitl [HO Hc Hat]
  · iapply (bar_wait m ρ K c 0 barS rfl (O₁ c) (above_O₁ c))
    isplitr; · iexact Hp
    isplitl [HO]; · iexact HO
    isplitl [Hc] <;> iassumption
  iintro %a ⟨HO, Hsp, Hpay⟩
  iapply next
  ihave Ht := (show (View.loc (c : Thread nD τ) (tM.access rT) ↦{fullShare} k0_pay1 (xstg m ρ c) : sProp 𝕄) ⊢ _ from tot_split m ρ c) $$ Ht
  icases Ht with ⟨Htr, Htl⟩
  isplitl [HO Hpay Hst Htl]
  · unfold L2
    iapply (loop_start m ρ K c _ _ _)
    isplitr; · iexact Hp
    isplitl [HO]; · iexact HO
    iapply (show iprop(bigSep (ups 1) (fun d => payK m ρ c kBar d) ∗ bigSep (ups 1) (fun d => sendToks (F := F) c d) ∗ bigSep (ups 1) (fun d => totPts m ρ c (lent d)))
      ⊢ bigSep (ups 1) (fun d => sendIn m ρ c d) from by
        unfold sendIn
        rw [bigSep_sep', bigSep_sep']
        exact .rfl)
    isplitl [Hpay]; · iexact Hpay
    isplitl [Hst] <;> iassumption
  unfold R2 xPts
  isplitl [Hx]; · iexact Hx
  isplitl [Ho]; · iexact Ho
  isplitl [Htr]; · iexact Htr
  isplitl [Hk]; · iexact Hk
  isplitl [Hsp]; · iexact Hsp
  isplitl [Hri]; · iexact Hri
  isplitl [Has] <;> iassumption

/-- Between the copies and the waits: load the block for the product. -/
theorem mid2 {β : Type} {k : Vec F S1024x512 .f32 → PP F β} {Q : β → sProp 𝕄} (c : Dev nD)
    {hx : (xM : Memref sig .tc .vmem S1024x512 .f32).view.LoadsAt rX.toLoadRect}
    (next : iprop(L3 m ρ K c 1 ∗ R3 m ρ c) ⊢ Run c (k (xstg m ρ c)) Q) :
    iprop(L2 m ρ K c 32 ∗ R2 m ρ c) ⊢ Run c (Prog.lift (.load xM rX.toLoadRect hx) >>= k) Q := by
  simp only [Prog.lift, Prog.bind_op, Prog.bind_ret]
  unfold R2 xPts
  iintro ⟨HL, Hx, Ho, Htr, Hk, Hsp, Hri, Has, H5⟩
  ihave HL := (L2_end m ρ K c) $$ HL
  icases HL with ⟨#Hp, HO, Hse⟩
  iapply (wp_load 𝒱₀ (c : Thread nD τ) none Set.univ (m := xM) (Finset.subset_univ _)) $$ Hx; iintro Hx
  rw [read_x]
  iapply next
  isplitl [HO Hri]
  · unfold L3
    iapply (loop_start m ρ K c _ _ _)
    isplitr; · iexact Hp
    isplitl [HO] <;> iassumption
  unfold R3 xPts
  isplitl [Hx]; · iexact Hx
  isplitl [Ho]; · iexact Ho
  isplitl [Htr]; · iexact Htr
  isplitl [Hk]; · iexact Hk
  isplitl [Hsp]; · iexact Hsp
  isplitl [Has Hse]
  · iapply (show iprop(bigSep (ups 1) (fun d => atStart (F := F) c (kSend d)) ∗ bigSep (ups 1) (fun d => sent m ρ c d))
      ⊢ bigSep (ups 1) (fun d => flyIn m ρ c d) from by
        unfold flyIn
        rw [bigSep_sep']
        exact .rfl)
    isplitl [Has] <;> iassumption
  iexact H5

/-- After the waits: take the receive buffer together, load it, and form the result. -/
theorem mid3 {Q : FVec F S1024x512 .f32 → sProp 𝕄} (c : Dev nD) (w : FVec F S1024x512 .f32)
    {hc : (cM : Memref sig .tc .vmem S32x1x512 .f32).view.LoadsAt rC.toLoadRect}
    {ho : (oM : Memref sig .tc .vmem S1024x512 .f32).view.LoadsAt rX.toLoadRect}
    (next : iprop(L4 m ρ K c 1 ∗ R4 m ρ c (oAny c)) ⊢ Q (k0_pay3 (v2w c) w (commC m ρ c))) :
    iprop(L3 m ρ K c 32 ∗ R3 m ρ c) ⊢ Run c (Prog.lift (.load cM rC.toLoadRect hc) >>= fun y => Prog.lift (.load oM rX.toLoadRect ho)
      >>= fun _ => pure (k0_pay3 (v2w c) w y)) Q := by
  simp only [Prog.lift, Prog.bind_op, Prog.bind_ret, Prog.pure_eq_ret]
  unfold R3 oAny oPts
  iintro ⟨HL, Hx, ⟨%o0, Ho⟩, Htr, Hk, Hsp, Hfi, H5⟩
  ihave HL := (L3_end m ρ K c) $$ HL
  icases HL with ⟨#Hp, HO, Hro⟩
  ihave Hro := (show bigSep (ups 1) (fun d => recvOut m ρ c d) ⊢ iprop(bigSep (ups 1) (fun d => spent (F := F) m ρ c (kRecv d)) ∗ bigSep (ups 1) (fun d => filled m ρ c d)) from by
        unfold recvOut filled
        rw [bigSep_sep']) $$ Hro
  icases Hro with ⟨Hsr, Hfl⟩
  ihave Hcm := (comm_join m ρ c) $$ [Hk Hfl]
  · isplitl [Hk] <;> iassumption
  icases Hcm with ⟨%g, %hg, Hcm⟩
  iapply (wp_load 𝒱₀ (c : Thread nD τ) none Set.univ (m := cM) (Finset.subset_univ _)) $$ Hcm; iintro Hcm
  rw [read_c]
  iapply (wp_load 𝒱₀ (c : Thread nD τ) none Set.univ (m := oM) (Finset.subset_univ _)) $$ Ho; iintro Ho
  rw [pay3_congr m ρ c w g hg]
  iapply (le_wp_ret _ _ _ _ _)
  iapply next
  isplitl [HO Hfi]
  · unfold L4
    iapply (loop_start m ρ K c _ _ _)
    isplitr; · iexact Hp
    isplitl [HO] <;> iassumption
  unfold R4
  isplitl [Hx]; · iexact Hx
  isplitl [Ho]
  · unfold oAny oPts; iexists o0; iexact Ho
  isplitl [Htr]; · iexact Htr
  isplitl [Hcm]
  · unfold commAny; iexists g; iexact Hcm
  isplitl [Hsp]; · iexact Hsp
  isplitl [Hsr] <;> iassumption

/-- Storing the result. -/
theorem store_step {β : Type} {k : PUnit.{1} → PP F β} {Q : β → sProp 𝕄} (c : Dev nD) (w : FVec F S1024x512 .f32) {hs hs'}
    (next : iprop(L4 m ρ K c 1 ∗ R4 m ρ c (oPts c w)) ⊢ Run c (k ⟨⟩) Q) :
    iprop(L4 m ρ K c 1 ∗ R4 m ρ c (oAny c)) ⊢ Run c (Prog.lift (.store oM rX w Finset.univ hs hs') >>= k) Q := by
  simp only [Prog.lift, Prog.bind_op, Prog.bind_ret]
  unfold R4 oAny oPts
  iintro ⟨HL, Hx, ⟨%o0, Ho⟩, HR⟩
  iapply (wp_store 𝒱₀ (c : Thread nD τ) none Set.univ (m := oM) (r := rX) (Mk := Finset.univ) (Finset.subset_univ _)) $$ Ho; iintro Ho
  rw [write_o]
  iapply next
  isplitl [HL]; · iexact HL
  unfold R4 oPts
  isplitl [Hx]; · iexact Hx
  isplitl [Ho] <;> iassumption

/-- Once its own copies have left, the device has all of its column sums back. -/
theorem mid4 (c : Dev nD) (o : sProp 𝕄) : iprop(L4 m ρ K c 32 ∗ R4 m ρ c o) ⊢ iprop(L5 m ρ K c 1 ∗ R5 m ρ c o) := by
  unfold R4 tail5
  iintro ⟨HL, Hx, Ho, Htr, Hcm, Hsp, Hsr, Hto, H5⟩
  ihave HL := (L4_end m ρ K c) $$ HL
  icases HL with ⟨#Hp, HO, Hfo⟩
  ihave Hfo := (show bigSep (ups 1) (fun d => flyOut m ρ c d) ⊢ iprop(bigSep (ups 1) (fun d => spent (F := F) m ρ c (kSend d)) ∗ bigSep (ups 1) (fun d => totPts m ρ c (lent d))) from by
        unfold flyOut
        rw [bigSep_sep']) $$ Hfo
  icases Hfo with ⟨Hss, Htl⟩
  isplitl [HO Hto]
  · unfold L5
    iapply (loop_start m ρ K c _ _ _)
    isplitr; · iexact Hp
    isplitl [HO]; · iexact HO
    iexact Hto
  unfold R5
  isplitl [Hx]; · iexact Hx
  isplitl [Ho]; · iexact Ho
  isplitl [Htr Htl]
  · unfold tAny
    iexists (tot m ρ c)
    iapply (tot_join m ρ c)
    isplitl [Htr] <;> iassumption
  isplitl [Hcm]; · iexact Hcm
  isplitl [Hsp]; · iexact Hsp
  isplitl [Hsr]; · iexact Hsr
  isplitl [Hss] <;> iassumption

omit [FloatOps F] in
/-- The send cell of offset 0 has no duty. -/
theorem send_zero (c : Dev nD) : dutiesK c (kSend 0) = ∅ := by simp [dutiesK]
omit [FloatOps F] in
/-- The receive cell of offset 0 has no duty. -/
theorem recv_zero (c : Dev nD) : dutiesK c (kRecv 0) = ∅ := by simp [dutiesK]

/-- Every cell of a device, by its sort. -/
theorem cells_eq (Φ : Kind → sProp 𝕄) : bigSep Finset.univ Φ
    = iprop((Φ kBar ∗ Φ kBar2) ∗ (Φ (kSend 0) ∗ bigSep (ups 1) (fun d => Φ (kSend d))) ∗ (Φ (kRecv 0) ∗ bigSep (ups 1) (fun d => Φ (kRecv d)))) := by
  rw [bigSep_univ_sum, bigSep_univ_sum, bigSep_fin_two, sep_univ, sep_univ]
  rfl

/-- The last wait: the second barrier, after which every cell is closed. -/
theorem end5 {Q : PUnit.{1} → sProp 𝕄} (c : Dev nD) (o : sProp 𝕄) (next : Done m ρ c o ⊢ Q ⟨⟩) :
    iprop(L5 m ρ K c 32 ∗ R5 m ρ c o) ⊢ Run c (semWaitWord bar2S 31#32 >>= fun _ => pure ⟨⟩) Q := by
  unfold R5 fin5 Run
  rw [wp_bind]
  iintro ⟨HL, Hx, Ho, Ht, Hcm, Hsp, Hsr, Hss, Hc, Hat, Hs0, Hr0⟩
  ihave HL := (L5_end m ρ K c) $$ HL
  icases HL with ⟨#Hp, HO⟩
  iapply (wp_wand_r frame (wpE (defs₀ (F := F)) 𝒱₀ (c : Thread nD τ) none) Set.univ
    (Q := fun _ => iprop(ow c 0 ∗ spent (F := F) m ρ c kBar2 ∗ bigSep (ups 1) (fun e => payK m ρ c kBar2 e))))
  isplitl [HO Hc Hat]
  · iapply (bar_wait m ρ K c 1 bar2S rfl 0 (above_zero _))
    isplitr; · iexact Hp
    isplitl [HO]; · iexact HO
    isplitl [Hc] <;> iassumption
  iintro %a ⟨HO, Hsp2, -⟩
  ihave Hs0 := (spent_none m ρ c (kSend 0) (send_zero c)) $$ Hs0
  ihave Hr0 := (spent_none m ρ c (kRecv 0) (recv_zero c)) $$ Hr0
  ihave Hall := (show iprop(pers m ρ K ∗ bigSep Finset.univ (fun k : Kind => spent (F := F) m ρ c k)) ⊢ iprop(|={Set.univ}=> bigSep Finset.univ (fun k : Kind => semVal (cellAt c k) 0)) from
    (bigSep_with_persistent fun k _ => spent_close m ρ K c k).trans (bigSep_fupd _ _)) $$ [Hsp Hsp2 Hs0 Hr0 Hsr Hss]
  · isplitr; · iexact Hp
    rw [cells_eq]
    isplitl [Hsp Hsp2]; · isplitl [Hsp] <;> iassumption
    isplitl [Hs0 Hss]; · isplitl [Hs0] <;> iassumption
    isplitl [Hr0] <;> iassumption
  rw [Prog.pure_eq_ret, wp_ret]
  imod Hall with Hall
  imodintro
  iapply next
  unfold Done
  isplitl [HO]; · iexact HO
  isplitl [Hx]; · iexact Hx
  isplitl [Ho]; · iexact Ho
  isplitl [Ht]; · iexact Ht
  isplitl [Hcm] <;> iassumption

end Cert.PrefixSum

end
-- ==== Proof.Body.lean ====
/-
The kernel's body on one device, symbolic in the device: its steps put together into one triple, from the protocol's
resources at launch to every cell closed and the device's result stored.
-/
module

public import proofs.«01_k».proof.Proof.Middle

@[expose] public section

set_option maxRecDepth 16384

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Kind → ℕ)

/-- A returned value goes to what follows. -/
theorem ret_step (c : Dev nD) {β : Type} (v : β) {P : sProp 𝕄} {Q : β → sProp 𝕄} (next : P ⊢ Q v) :
    P ⊢ wp Idealize.ShloMosaic.frame (wpE (defs₀ (F := F)) 𝒱₀ (c.tc : Thread nD τ) none) Set.univ (pure v : PP F β) Q :=
  next.trans (le_wp_ret _ _ _ _ _)

attribute [local irreducible] wp

set_option maxHeartbeats 8000000 in
/-- One device's body: the two barriers, the sends, the receives and the sum, in program order. -/
theorem body_run (c : Dev nD) (Q : PUnit.{1} → sProp 𝕄) (next : Done m ρ c (oPts c (outAt m ρ c)) ⊢ Q ⟨⟩) :
    iprop(L1 m ρ K c 1 ∗ R1 m ρ c) ⊢ Run c (cc0_body xM (Memref.isWhole_whole _) oM (Memref.isWhole_whole _)
      tM (Memref.isWhole_whole _) cM (Memref.isWhole_whole _) cc0_scratch2 cc0_scratch3 cc0_scoped0) Q := by
  rw [cc0_body_eq_skeleton]; unfold cc0_body_skel Run
  rw [wp_bind, k0_part52_eq_skeleton]; unfold k0_part52_skel
  rw [wp_bind, k0_part1_eq_skeleton]; unfold k0_part1_skel
  simp only [Prog.lift, Prog.bind_op, Prog.bind_ret, wp_deviceId]
  iterate 2 refine sig_step m ρ K c _ ⟨by decide, by decide⟩ _ (by clear next; revert c; decide +kernel) ?_
  with_reducible refine ret_step c _ ?_
  try dsimp only
  iterate 11
    rw [wp_bind]
    first
      | (rw [k0_part2_eq_skeleton]; unfold k0_part2_skel)
      | (rw [k0_part3_eq_skeleton]; unfold k0_part3_skel)
      | (rw [k0_part4_eq_skeleton]; unfold k0_part4_skel)
      | (rw [k0_part5_eq_skeleton]; unfold k0_part5_skel)
      | (rw [k0_part6_eq_skeleton]; unfold k0_part6_skel)
      | (rw [k0_part7_eq_skeleton]; unfold k0_part7_skel)
      | (rw [k0_part8_eq_skeleton]; unfold k0_part8_skel)
      | (rw [k0_part9_eq_skeleton]; unfold k0_part9_skel)
      | (rw [k0_part10_eq_skeleton]; unfold k0_part10_skel)
      | (rw [k0_part11_eq_skeleton]; unfold k0_part11_skel)
      | (rw [k0_part12_eq_skeleton]; unfold k0_part12_skel)
    try dsimp only
    repeat refine sig_step m ρ K c _ ⟨by decide, by decide⟩ _ (by clear next; revert c; decide +kernel) ?_
    with_reducible refine ret_step c _ ?_
    try dsimp only
  rw [wp_bind, k0_part13_eq_skeleton]; unfold k0_part13_skel
  try dsimp only
  iterate 2 refine sig_step m ρ K c _ ⟨by decide, by decide⟩ _ (by clear next; revert c; decide +kernel) ?_
  refine mid1 m ρ K c ?_
  with_reducible refine ret_step c _ ?_
  try dsimp only
  iterate 14
    rw [wp_bind]
    first
      | (rw [k0_part14_eq_skeleton]; unfold k0_part14_skel)
      | (rw [k0_part15_eq_skeleton]; unfold k0_part15_skel)
      | (rw [k0_part16_eq_skeleton]; unfold k0_part16_skel)
      | (rw [k0_part17_eq_skeleton]; unfold k0_part17_skel)
      | (rw [k0_part18_eq_skeleton]; unfold k0_part18_skel)
      | (rw [k0_part19_eq_skeleton]; unfold k0_part19_skel)
      | (rw [k0_part20_eq_skeleton]; unfold k0_part20_skel)
      | (rw [k0_part21_eq_skeleton]; unfold k0_part21_skel)
      | (rw [k0_part22_eq_skeleton]; unfold k0_part22_skel)
      | (rw [k0_part23_eq_skeleton]; unfold k0_part23_skel)
      | (rw [k0_part24_eq_skeleton]; unfold k0_part24_skel)
      | (rw [k0_part25_eq_skeleton]; unfold k0_part25_skel)
      | (rw [k0_part26_eq_skeleton]; unfold k0_part26_skel)
      | (rw [k0_part27_eq_skeleton]; unfold k0_part27_skel)
    try dsimp only
    repeat refine send_step m ρ K c _ ⟨by decide, by decide⟩ _ (by clear next; revert c; decide +kernel) _ (by clear next; revert c; decide +kernel) ?_
    with_reducible refine ret_step c _ ?_
    try dsimp only
  rw [wp_bind, k0_part28_eq_skeleton]; unfold k0_part28_skel
  try dsimp only
  iterate 2 refine send_step m ρ K c _ ⟨by decide, by decide⟩ _ (by clear next; revert c; decide +kernel) _ (by clear next; revert c; decide +kernel) ?_
  refine mid2 m ρ K c ?_
  with_reducible refine ret_step c _ ?_
  try dsimp only
  iterate 4
    rw [wp_bind]
    first
      | (rw [k0_part29_eq_skeleton]; unfold k0_part29_skel)
      | (rw [k0_part30_eq_skeleton]; unfold k0_part30_skel)
      | (rw [k0_part31_eq_skeleton]; unfold k0_part31_skel)
      | (rw [k0_part32_eq_skeleton]; unfold k0_part32_skel)
    try dsimp only
    repeat refine recv_step m ρ K c _ ⟨by decide, by decide⟩ _ (by clear next; revert c; decide +kernel) ?_
    with_reducible refine ret_step c _ ?_
    try dsimp only
  rw [wp_bind, k0_part33_eq_skeleton]; unfold k0_part33_skel
  try dsimp only
  iterate 5 refine recv_step m ρ K c _ ⟨by decide, by decide⟩ _ (by clear next; revert c; decide +kernel) ?_
  refine mid3 m ρ K c _ ?_
  try dsimp only
  rw [wp_bind, k0_part34_eq_skeleton]; unfold k0_part34_skel
  try dsimp only
  refine store_step m ρ K c _ ?_
  iterate 5 refine fly_step m ρ K c _ ⟨by decide, by decide⟩ _ (by clear next; revert c; decide +kernel) ?_
  with_reducible refine ret_step c _ ?_
  try dsimp only
  iterate 4
    rw [wp_bind]
    first
      | (rw [k0_part35_eq_skeleton]; unfold k0_part35_skel)
      | (rw [k0_part36_eq_skeleton]; unfold k0_part36_skel)
      | (rw [k0_part37_eq_skeleton]; unfold k0_part37_skel)
      | (rw [k0_part38_eq_skeleton]; unfold k0_part38_skel)
    try dsimp only
    repeat refine fly_step m ρ K c _ ⟨by decide, by decide⟩ _ (by clear next; revert c; decide +kernel) ?_
    with_reducible refine ret_step c _ ?_
    try dsimp only
  rw [wp_bind, k0_part39_eq_skeleton]; unfold k0_part39_skel
  try dsimp only
  iterate 4 refine fly_step m ρ K c _ ⟨by decide, by decide⟩ _ (by clear next; revert c; decide +kernel) ?_
  refine (mid4 m ρ K c _).trans ?_
  with_reducible refine ret_step c _ ?_
  try dsimp only
  iterate 12
    rw [wp_bind]
    first
      | (rw [k0_part40_eq_skeleton]; unfold k0_part40_skel)
      | (rw [k0_part41_eq_skeleton]; unfold k0_part41_skel)
      | (rw [k0_part42_eq_skeleton]; unfold k0_part42_skel)
      | (rw [k0_part43_eq_skeleton]; unfold k0_part43_skel)
      | (rw [k0_part44_eq_skeleton]; unfold k0_part44_skel)
      | (rw [k0_part45_eq_skeleton]; unfold k0_part45_skel)
      | (rw [k0_part46_eq_skeleton]; unfold k0_part46_skel)
      | (rw [k0_part47_eq_skeleton]; unfold k0_part47_skel)
      | (rw [k0_part48_eq_skeleton]; unfold k0_part48_skel)
      | (rw [k0_part49_eq_skeleton]; unfold k0_part49_skel)
      | (rw [k0_part50_eq_skeleton]; unfold k0_part50_skel)
      | (rw [k0_part51_eq_skeleton]; unfold k0_part51_skel)
    try dsimp only
    repeat refine sig2_step m ρ K c _ ⟨by decide, by decide⟩ _ (by clear next; revert c; decide +kernel) ?_
    with_reducible refine ret_step c _ ?_
    try dsimp only
  refine sig2_step m ρ K c _ ⟨by decide, by decide⟩ _ (by clear next; revert c; decide +kernel) ?_
  refine end5 m ρ K c _ ?_
  try dsimp only
  with_reducible refine ret_step c _ ?_
  try dsimp only
  exact next

end Cert.PrefixSum

end
-- ==== Proof.Ghost.lean ====
/-
The launch of the prefix-sum kernel: every cell becomes an invariant, the duty tokens go to the devices that pay them,
and each device gets the credit that the other devices owe its cells.
-/
module

public import proofs.«01_k».proof.Proof.Body

@[expose] public section

set_option maxRecDepth 16384

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the launch hands out -/

/-- The records every device reads: the invariant of each cell and that each cell has reached its round. -/
def records (K : Dev nD × Kind → ℕ) : sProp 𝕄 :=
  iprop((bigSep Finset.univ fun ck : Dev nD × Kind => cellInv ER (sched (F := F) m ρ) (K ck) (cellAt ck.1 ck.2))
    ∗ bigSep Finset.univ fun ck : Dev nD × Kind => reached ER (cellAt ck.1 ck.2) 0)

instance records_persistent (K : Dev nD × Kind → ℕ) : BI.Persistent (records (F := F) m ρ K) := by unfold records; infer_instance

/-- The records of the launch give the shared facts. -/
theorem pers_of_records (K : Dev nD × Kind → ℕ) : iprop(records (F := F) m ρ K ∗ levAts L lv) ⊢ pers m ρ K := by
  unfold records pers
  iintro ⟨⟨HI, HR⟩, HL⟩
  isplitl [HI]; · iexact HI
  isplitl [HR] <;> iassumption

/-- The tokens of the duties that device `c` pays. -/
def payToks (c : Dev nD) : sProp 𝕄 :=
  iprop((bigSep Finset.univ fun d : Fin 32 => dutyTok ER (barCell (fwd c d)) 0 (opp d))
    ∗ (bigSep Finset.univ fun d : Fin 32 => dutyTok ER (bar2Cell (fwd c d)) 0 (opp d))
    ∗ (bigSep Finset.univ fun d : Fin 32 => dutyTok ER (sendCell c d) 0 (0 : Fin 32))
    ∗ (bigSep Finset.univ fun d : Fin 32 => dutyTok ER (recvCell (fwd c d) d) 0 (0 : Fin 32)))

/-- What is device `c`'s alone: its positions and the tokens it pays with. -/
def mine (c : Dev nD) : sProp 𝕄 := iprop((bigSep Finset.univ fun k : Kind => atStart (F := F) c k) ∗ payToks c)

/-- The ghost state device `c` starts from. -/
def ghost (c : Dev nD) : sProp 𝕄 := iprop(∃ K, records (F := F) m ρ K ∗ mine c)

/-- The tokens of device `c`'s own cells. -/
def toks (c : Dev nD) : sProp 𝕄 :=
  bigSep Finset.univ fun k : Kind => bigSep Finset.univ fun e : Fin 32 => dutyTok ER (cellAt c k) 0 e

/-- What the launch element deals device `c`. -/
def dealt (c : Dev nD) : sProp 𝕄 :=
  iprop((bigSep Finset.univ fun k : Kind => roundState ER (sched (F := F) m ρ) (cellAt c k) 0)
    ∗ (bigSep Finset.univ fun k : Kind => atStart (F := F) c k)
    ∗ (bigSep Finset.univ fun k : Kind => reached ER (cellAt c k) 0) ∗ toks c)

/-- Every device's protocol cells. -/
def allCells : Finset (GSem nD τ sig) :=
  (Finset.univ : Finset (Dev nD × Kind)).map ⟨fun ck => cellAt ck.1 ck.2, fun a b h => Prod.ext (cellAt_inj h).1 (cellAt_inj h).2⟩
/-- Every duty's token. -/
def allToks : Finset (GSem nD τ sig × ℕ × Fin 32) :=
  (Finset.univ : Finset (Dev nD × Kind × Fin 32)).map ⟨fun x => (cellAt x.1 x.2.1, 0, x.2.2), fun a b h => by
    have h1 := cellAt_inj (congrArg Prod.fst h)
    exact Prod.ext h1.1 (Prod.ext h1.2 (congrArg (fun y : GSem nD τ sig × ℕ × Fin 32 => y.2.2) h))⟩

/-- The ghost state at launch. -/
def u₀ : UU := (initOf (Pipeline.cells cfgs cellOf_inj) (Pipeline.launchToks cfgs cellOf_inj), initOf allCells allToks)

/-- A conjunction over all cells runs over devices and sorts. -/
theorem over_cells (Φ : GSem nD τ sig → sProp 𝕄) :
    bigSep allCells Φ = bigSep Finset.univ fun c : Dev nD => bigSep Finset.univ fun k : Kind => Φ (cellAt c k) := by
  unfold allCells; rw [bigSep_map, bigSep_univ_prod]; rfl
/-- The tokens, device by device. -/
theorem over_toks : bigSep allToks (fun x => (dutyTok ER x.1 x.2.1 x.2.2 : sProp 𝕄)) = bigSep Finset.univ fun c : Dev nD => toks c := by
  unfold allToks; rw [bigSep_map, bigSep_univ_prod]
  exact bigSep_congr fun c _ => by unfold toks; rw [bigSep_univ_prod]; rfl

/-- The initial ghost state dealt out to the devices. -/
theorem deal : BI.own (ER (initOf allCells allToks)) ⊢ (|==> bigSep Finset.univ (dealt (F := F) m ρ) : sProp 𝕄) := by
  iintro HX
  imod (Rounds.fund ER (sched (F := F) m ρ) allCells allToks) $$ HX with ⟨Hst, Hr, Hat, Htok⟩
  imodintro
  ihave Hst := (Entails.of_eq (over_cells fun g => roundState ER (sched (F := F) m ρ) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold dealt; simp only [bigSep_sep']
  isplitl [Hst]; · iexact Hst
  isplitl [Hat]; · iexact Hat
  isplitl [Hr] <;> iassumption

/-! ## The tokens go to the devices that pay -/

set_option backward.proofsInPublic true in
/-- Device and offset, seen from the other end. -/
def turn : Dev nD × Fin 32 ≃ Dev nD × Fin 32 :=
  ⟨fun x => (fwd x.1 x.2, opp x.2), fun x => (fwd x.1 x.2, opp x.2), fun x => Prod.ext (fwd_opp _ _) (opp_opp _), fun x => Prod.ext (fwd_opp _ _) (opp_opp _)⟩
set_option backward.proofsInPublic true in
/-- The device moved on by the offset. -/
def shift : Dev nD × Fin 32 ≃ Dev nD × Fin 32 :=
  ⟨fun x => (fwd x.1 x.2, x.2), fun x => (fwd x.1 (opp x.2), x.2), fun x => Prod.ext (fwd_opp _ _) rfl, fun x => Prod.ext (opp_fwd _ _) rfl⟩

/-- A family over devices and offsets, dealt again along a permutation of them. -/
theorem deal_again (e : Dev nD × Fin 32 ≃ Dev nD × Fin 32) (Φ : Dev nD × Fin 32 → sProp 𝕄) :
    (bigSep Finset.univ fun c : Dev nD => bigSep Finset.univ fun d : Fin 32 => Φ (c, d))
      = bigSep Finset.univ fun c : Dev nD => bigSep Finset.univ fun d : Fin 32 => Φ (e (c, d)) := by
  rw [← bigSep_univ_prod Φ, bigSep_univ_equiv e, bigSep_univ_prod]

/-- The cells of a device, sort by sort. -/
theorem kinds_eq (Φ : Kind → sProp 𝕄) : bigSep Finset.univ Φ
    = iprop((Φ kBar ∗ Φ kBar2) ∗ (bigSep Finset.univ fun d => Φ (kSend d)) ∗ bigSep Finset.univ fun d => Φ (kRecv d)) := by
  rw [bigSep_univ_sum, bigSep_univ_sum, bigSep_fin_two]; rfl

/-- The tokens there are a use for. -/
theorem toks_used (c : Dev nD) : (toks c : sProp 𝕄)
    ⊢ iprop((bigSep Finset.univ fun e : Fin 32 => dutyTok ER (barCell c) 0 e) ∗ (bigSep Finset.univ fun e : Fin 32 => dutyTok ER (bar2Cell c) 0 e)
      ∗ (bigSep Finset.univ fun d : Fin 32 => dutyTok ER (sendCell c d) 0 (0 : Fin 32)) ∗ (bigSep Finset.univ fun d : Fin 32 => dutyTok ER (recvCell c d) 0 (0 : Fin 32))) := by
  have one (k : Fin 32 → Kind) : (bigSep Finset.univ fun d : Fin 32 => bigSep Finset.univ fun e : Fin 32 => (dutyTok ER (cellAt c (k d)) 0 e : sProp 𝕄))
      ⊢ bigSep Finset.univ fun d : Fin 32 => dutyTok ER (cellAt c (k d)) 0 (0 : Fin 32) := bigSep_mono fun d _ => bigSep_elim (Finset.mem_univ (0 : Fin 32))
  unfold toks
  rw [kinds_eq]
  iintro ⟨⟨Ha, Hb⟩, Hc, Hd⟩
  isplitl [Ha]; · iexact Ha
  isplitl [Hb]; · iexact Hb
  isplitl [Hc]
  · iapply (one fun d => kSend d); iexact Hc
  · iapply (one fun d => kRecv d); iexact Hd

/-- The tokens move from the devices whose cells they concern to the devices that pay them. -/
theorem toks_paid : (bigSep Finset.univ fun c : Dev nD => (toks c : sProp 𝕄)) ⊢ bigSep Finset.univ fun c : Dev nD => payToks c := by
  refine (bigSep_mono fun c _ => toks_used c).trans ?_
  unfold payToks
  rw [bigSep_sep', bigSep_sep', bigSep_sep', bigSep_sep', bigSep_sep', bigSep_sep',
    deal_again turn (fun x => (dutyTok ER (barCell x.1) 0 x.2 : sProp 𝕄)),
    deal_again turn (fun x => (dutyTok ER (bar2Cell x.1) 0 x.2 : sProp 𝕄)),
    deal_again shift (fun x => (dutyTok ER (recvCell x.1 x.2) 0 (0 : Fin 32) : sProp 𝕄))]
  exact BI.Entails.refl _

/-! ## The global step -/

/-- The kernel's own semaphores: the second barrier's, and those of the copies. -/
abbrev osem : Fin 1 ⊕ (Fin 32 ⊕ Fin 32) → SemLoc sig := Sum.elim (fun _ => semOf kBar2) (fun x => semOf (.inr x))

/-- The counter that is there before the kernel: the barrier's. -/
theorem unscoped_eq (c : Dev nD) : (unscopedSems0 c : sProp 𝕄) = semVal (barCell c) 0 := by
  unfold unscopedSems0; rw [bigSep_eq_bigSepL_of_eq [SemLoc.reg barS] (by decide +kernel) (by decide +kernel)]; rfl

/-- All the counters of a device's cells: the kernel's own and the runtime's. -/
theorem counters_eq (c : Dev nD) :
    (bigSep Finset.univ fun k : Kind => (semVal (cellAt c k) 0 : sProp 𝕄))
      = iprop((semVal (barCell c) 0 ∗ semVal (bar2Cell c) 0) ∗ bigSep Finset.univ fun x : Fin 32 ⊕ Fin 32 => semVal (cellAt c (.inr x)) 0) := by
  rw [bigSep_univ_sum, bigSep_fin_two]; rfl
/-- The counters that come with the kernel, by sort. -/
theorem own_eq (c : Dev nD) : (Pipeline.ownSems0 (Ix := Unit) (Name := ℕ) (U := UU) (Lvl := ℕ) (Val := Elt F) (τ := τ) osem c : sProp 𝕄)
    = iprop(semVal (bar2Cell c) 0 ∗ bigSep Finset.univ fun x : Fin 32 ⊕ Fin 32 => semVal (cellAt c (.inr x)) 0) := by
  unfold Pipeline.ownSems0
  rw [bigSep_univ_sum, bigSep_univ_of_subsingleton (0 : Fin 1)]; rfl
/-- All counters of a device, by sort. -/
theorem counters_join (c : Dev nD) :
    iprop(Pipeline.ownSems0 (Ix := Unit) (Name := ℕ) (U := UU) (Lvl := ℕ) (Val := Elt F) (τ := τ) osem c ∗ unscopedSems0 c)
      ⊢ (bigSep Finset.univ fun k : Kind => semVal (cellAt c k) 0 : sProp 𝕄) := by
  rw [own_eq, unscoped_eq, counters_eq]
  show (_ : sProp 𝕄) ⊢ _
  iintro ⟨⟨Hb, Hr⟩, Ha⟩
  isplitl [Ha Hb]
  · isplitl [Ha] <;> iassumption
  iexact Hr
/-- And back again at the end. -/
theorem counters_split (c : Dev nD) :
    (bigSep Finset.univ fun k : Kind => semVal (cellAt c k) 0 : sProp 𝕄)
      ⊢ iprop(unscopedSems0 c ∗ Pipeline.ownSems0 (Ix := Unit) (Name := ℕ) (U := UU) (Lvl := ℕ) (Val := Elt F) (τ := τ) osem c) := by
  rw [own_eq, unscoped_eq, counters_eq]
  show (_ : sProp 𝕄) ⊢ _
  iintro ⟨⟨Ha, Hb⟩, Hr⟩
  isplitl [Ha]; · iexact Ha
  isplitl [Hb] <;> iassumption

/-- One device's cells become invariants. -/
theorem core_alloc (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k : Kind => iprop(∃ κ : ℕ, cellInv ER (sched (F := F) m ρ) κ (cellAt c k)))
          ∗ (bigSep Finset.univ fun k : Kind => reached ER (cellAt c k) 0) ∗ (bigSep Finset.univ fun k : Kind => atStart (F := F) c k) ∗ toks c) := by
  have alloc : iprop((bigSep Finset.univ fun k : Kind => semVal (cellAt c k) 0) ∗ bigSep Finset.univ fun k : Kind => roundState ER (sched (F := F) m ρ) (cellAt c k) 0)
      ⊢ (|={Set.univ}=> bigSep Finset.univ fun k : Kind => iprop(∃ κ : ℕ, cellInv ER (sched (F := F) m ρ) κ (cellAt c k)) : sProp 𝕄) := by
    rw [← bigSep_sep']
    exact (bigSep_mono fun k _ => (Rounds.body_intro ER (sched (F := F) m ρ) (cellAt c k)).trans inv_alloc).trans (bigSep_fupd _ _)
  unfold dealt
  iintro ⟨Hos, Hus, Hst, Hat, Hr, Htok⟩
  ihave Hv := (counters_join (F := F) c) $$ [Hos Hus]
  · isplitl [Hos] <;> iassumption
  imod alloc $$ [Hv Hst] with Hinv
  · isplitl [Hv] <;> iassumption
  imodintro
  isplitl [Hinv]; · iexact Hinv
  isplitl [Hr]; · iexact Hr
  isplitl [Hat] <;> iassumption

/-- The invariants, shared with every device. -/
theorem regroup :
    (bigSep Finset.univ fun c : Dev nD => iprop((bigSep Finset.univ fun k : Kind => iprop(∃ κ : ℕ, cellInv ER (sched (F := F) m ρ) κ (cellAt c k)))
          ∗ (bigSep Finset.univ fun k : Kind => reached ER (cellAt c k) 0) ∗ (bigSep Finset.univ fun k : Kind => atStart (F := F) c k) ∗ toks c) : sProp 𝕄)
      ⊢ bigSep Finset.univ (ghost (F := F) m ρ) := by
  rw [bigSep_sep', bigSep_sep', bigSep_sep',
    ← bigSep_univ_prod (fun ck : Dev nD × Kind => iprop(∃ κ : ℕ, cellInv ER (sched (F := F) m ρ) κ (cellAt ck.1 ck.2))),
    ← bigSep_univ_prod (fun ck : Dev nD × Kind => (reached ER (cellAt ck.1 ck.2) 0 : sProp 𝕄))]
  show (_ : sProp 𝕄) ⊢ _
  iintro ⟨HI, #HR, Hat, Htok⟩
  ihave HK := (BI.bigSep_exists_pi Finset.univ (fun (ck : Dev nD × Kind) (κ : ℕ) => (cellInv ER (sched (F := F) m ρ) κ (cellAt ck.1 ck.2) : sProp 𝕄))) $$ HI
  icases HK with ⟨%K, #HI⟩
  ihave Htk := (toks_paid (F := F)) $$ Htok
  iapply (bigSep_with_persistent (R := records (F := F) m ρ K) (Φ := fun c => mine (F := F) c) fun c _ => show iprop(records (F := F) m ρ K ∗ mine c) ⊢ ghost m ρ c by
    unfold ghost; iintro H; iexists K; iexact H)
  isplitr
  · unfold records; isplitl; · iexact HI
    iexact HR
  · unfold mine; rw [bigSep_sep']
    isplitl [Hat] <;> iassumption

/-- From the devices' counters and ghost state to what each starts with. -/
theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (ghost (F := F) m ρ) :=
  ((bigSep_mono fun c _ => core_alloc m ρ c).trans (bigSep_fupd _ _)).trans (BI.fupd_mono (regroup m ρ))

/-! ## The launch credit -/

/-- What the other devices owe each cell at launch. -/
def credK (c : Dev nD) : Kind → ℕ
  | .inl _ => 31
  | .inr (.inl _) => 0
  | .inr (.inr d) => if 1 ≤ d.val ∧ d.val ≤ c.val then N else 0

/-- A single debt, read at a cell. -/
theorem tally_at (g g' : GSem nD τ sig) (n : ℕ) : (tallyAt g () n : CellTallies nD τ sig Unit) g' () = if g' = g then n else 0 := by
  rw [tallyAt_apply]; simp
/-- Two protocol cells are one when device and sort agree. -/
theorem cell_eq_iff (a b : Dev nD) (k k' : Kind) : cellAt a k = cellAt b k' ↔ a = b ∧ k = k' :=
  ⟨cellAt_inj, fun h => by rw [h.1, h.2]⟩

/-- What device `b` owes a cell of device `c` at launch. -/
theorem owed_at (b c : Dev nD) (k : Kind) : O₀ b (cellAt c k) ()
    = (∑ d ∈ ups 1, if c = fwd b d ∧ k = kBar2 then 1 else 0) + (∑ d ∈ ups 1, if b.val + d.val < 32 ∧ c = fwd b d ∧ k = kRecv d then N else 0)
      + ∑ d ∈ ups 1, if c = fwd b d ∧ k = kBar then 1 else 0 := by
  have hS (d : Fin 32) : tSend b d (cellAt c k) () = if b.val + d.val < 32 ∧ c = fwd b d ∧ k = kRecv d then N else 0 := by
    unfold tSend
    by_cases h : b.val + d.val < 32
    · rw [if_pos h, show recvCell (fwd b d) d = cellAt (fwd b d) (kRecv d) from rfl, tally_at]
      simp only [cell_eq_iff, h, true_and]
    · rw [if_neg h, if_neg fun h' => h h'.1]; rfl
  have hB (d : Fin 32) : tBar b d (cellAt c k) () = if c = fwd b d ∧ k = kBar then 1 else 0 := by
    unfold tBar; rw [show barCell (fwd b d) = cellAt (fwd b d) kBar from rfl, tally_at]; simp only [cell_eq_iff]
  have hB2 (d : Fin 32) : tBar2 b d (cellAt c k) () = if c = fwd b d ∧ k = kBar2 then 1 else 0 := by
    unfold tBar2; rw [show bar2Cell (fwd b d) = cellAt (fwd b d) kBar2 from rfl, tally_at]; simp only [cell_eq_iff]
  unfold O₀ O₁ O₂
  simp only [Pi.add_apply, Finsupp.add_apply, Finset.sum_apply, Finsupp.finset_sum_apply, hS, hB, hB2]

/-- Each device is reached from 31 others. -/
theorem others (c : Dev nD) : (∑ b : Dev nD, ∑ d ∈ ups 1, if c = fwd b d then 1 else 0) = 31 := by
  rw [Finset.sum_comm]
  have h (d : Fin 32) : (∑ b : Dev nD, if c = fwd b d then 1 else 0) = 1 := by
    rw [Finset.sum_congr rfl fun b _ => if_congr (show c = fwd b d ↔ b = fwd c (opp d) from
      ⟨fun h => by rw [h, fwd_opp], fun h => by rw [h, opp_fwd]⟩) rfl rfl]
    rw [Finset.sum_ite_eq' Finset.univ (fwd c (opp d)) fun _ => 1, if_pos (Finset.mem_univ _)]
  rw [Finset.sum_congr rfl fun d _ => h d, Finset.sum_const, card_ups]; rfl

/-- At each offset a device is reached from one other, if that far back there is one. -/
theorem sender (c : Dev nD) (e : Fin 32) (he : 1 ≤ e.val) (n : ℕ) :
    (∑ b : Dev nD, if b.val + e.val < 32 ∧ c = fwd b e then n else 0) = if e.val ≤ c.val then n else 0 := by
  have h (b : Dev nD) : (b.val + e.val < 32 ∧ c = fwd b e) ↔ (b = fwd c (opp e) ∧ e.val ≤ c.val) := by
    have h1 := dev_lt b; have h2 := dev_lt c; have h3 := e.isLt
    simp only [Fin.ext_iff, fwd_val, opp_val]; omega
  rw [Finset.sum_congr rfl fun b _ => if_congr (h b) rfl rfl]
  by_cases hc : e.val ≤ c.val
  · simp only [hc, and_true, if_true]
    rw [Finset.sum_ite_eq' Finset.univ (fwd c (opp e)) fun _ => n, if_pos (Finset.mem_univ _)]
  · simp only [hc, _root_.and_false, if_false, Finset.sum_const_zero]

/-- What all devices together owe a cell at launch is the credit of its owner. -/
theorem launch_at (c : Dev nD) (k : Kind) : ∑ b : Dev nD, O₀ b (cellAt c k) () = credK c k := by
  rw [Finset.sum_congr rfl fun b _ => owed_at b c k, Finset.sum_add_distrib, Finset.sum_add_distrib]
  rcases k with i | d | e
  · fin_cases i
    · simpa [credK] using others c
    · simpa [credK] using others c
  · simp [credK]
  · simp only [credK, reduceCtorEq, _root_.and_false, if_false, Finset.sum_const_zero, zero_add, add_zero, Sum.inr.injEq]
    by_cases he : 1 ≤ e.val
    · have one (b : Dev nD) : (∑ d ∈ ups 1, if b.val + d.val < 32 ∧ c = fwd b d ∧ e = d then N else 0)
          = if b.val + e.val < 32 ∧ c = fwd b e then N else 0 := by
        rw [Finset.sum_eq_single e (fun d _ hd => if_neg fun h : _ ∧ _ ∧ e = d => hd h.2.2.symm) (fun h => absurd (mem_ups.mpr he) h)]
        exact if_congr (by simp) rfl rfl
      simp only [one, sender c e he, he, _root_.true_and]
    · have none (b : Dev nD) : (∑ d ∈ ups 1, if b.val + d.val < 32 ∧ c = fwd b d ∧ e = d then N else 0) = 0 :=
        Finset.sum_eq_zero fun d hd => if_neg fun h : _ ∧ _ ∧ e = d => he (by rw [h.2.2]; exact mem_ups.mp hd)
      simp only [none, Finset.sum_const_zero, he, _root_.false_and, if_false]

/-- The credit a device is launched with, for all its cells. -/
theorem creds (c : Dev nD) :
    (Pipeline.launchCred O₀ c : sProp 𝕄) ⊢ bigSep Finset.univ fun k : Kind => cred (tallyAt (cellAt c k) () (credK c k)) := by
  have h (k : Kind) : tallyOn (cellAt c k) (launchCredit (Pipeline.owing O₀) 0 (cellAt c k)) = (tallyAt (cellAt c k) () (credK c k) : CellTallies nD τ sig Unit) := by
    unfold tallyAt; refine congrArg _ (Finsupp.ext fun u => ?_); cases u
    rw [Pipeline.launchCredit_owing, Finsupp.single_eq_same, launch_at]
  unfold Pipeline.launchCred
  refine (bigSep_subset (Finset.subset_univ ((Finset.univ : Finset Kind).map ⟨semOf, semOf_injective⟩))).trans ?_
  rw [bigSep_map]
  exact bigSep_mono fun k _ => Entails.of_eq (congrArg cred (h k))

end Cert.PrefixSum

end
-- ==== Proof.Launch.lean ====
/-
The run of the whole program: each device's body from its launch state, then the launch theorem of the pipeline.
-/
module

public import proofs.«01_k».proof.Proof.Ghost
public import Idealize.ShloMosaic.Lib.Pipeline.CollectiveSegs

@[expose] public section

set_option maxRecDepth 16384

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## One device, from its launch state to its end -/

/-- The state device `c` is launched in. -/
def start (c : Dev nD) : sProp 𝕄 :=
  iprop(ghost m ρ c ∗ (bigSep Finset.univ fun k : Kind => cred (tallyAt (cellAt c k) () (credK c k))) ∗ levAts L lv)
/-- What a device's body starts with. -/
def Φ₀ (c : Dev nD) : sProp 𝕄 := iprop(start m ρ c ∗ tAny (F := F) c ∗ commAny (F := F) c)
/-- What is left when the body is over. -/
def Φ₁ (c : Dev nD) : sProp 𝕄 :=
  iprop(tAny (F := F) c ∗ commAny (F := F) c ∗ bigSep Finset.univ fun k : Kind => semVal (cellAt c k) 0)

/-- A receive cell at launch is ready for its wait. -/
theorem recv_ready (c : Dev nD) (d : Fin 32) (hd : 1 ≤ d.val) :
    iprop(atStart (F := F) c (kRecv d) ∗ cred (tallyAt (cellAt c (kRecv d)) () (credK c (kRecv d)))) ⊢ recvIn (F := F) c d := by
  unfold recvIn
  show iprop(atPos ER (recvCell c d) 0 ∅ 0 ∗ cred (tallyAt (recvCell c d) () (if 1 ≤ d.val ∧ d.val ≤ c.val then N else 0))) ⊢ _
  by_cases h : d.val ≤ c.val
  · rw [if_pos ⟨hd, h⟩, if_pos h]
  · rw [if_neg h]
    iintro ⟨H, -⟩
    isplitl [H]; · iexact H
    iempintro

/-- The launch's resources, arranged for the body's loops. -/
theorem ready (K : Dev nD × Kind → ℕ) (c : Dev nD) :
    iprop(records m ρ K ∗ mine (F := F) c ∗ (bigSep Finset.univ fun k : Kind => cred (tallyAt (cellAt c k) () (credK c k))) ∗ levAts L lv
        ∗ tAny (F := F) c ∗ commAny (F := F) c ∗ xPts m ρ c ∗ oAny (F := F) c ∗ ow (F := F) c (O₀ c))
      ⊢ iprop(L1 m ρ K c 1 ∗ R1 m ρ c) := by
  have signals : iprop((bigSep (ups 1) fun d => dutyTok ER (barCell (fwd c d)) 0 (opp d)) ∗ bigSep (ups 1) (fun d => givenSlot (F := F) c d))
      ⊢ (bigSep (ups 1) (fun d => sigIn (F := F) c d) : sProp 𝕄) := by
    rw [← bigSep_sep']; exact BI.Entails.refl _
  have copies : iprop((bigSep (ups 1) fun d => dutyTok ER (recvCell (fwd c d) d) 0 (0 : Fin 32)) ∗ bigSep (ups 1) fun d => dutyTok ER (sendCell c d) 0 (0 : Fin 32))
      ⊢ (bigSep (ups 1) (fun d => sendToks (F := F) c d) : sProp 𝕄) := by
    rw [← bigSep_sep']; exact BI.Entails.refl _
  have receives : iprop((bigSep (ups 1) fun d => atStart (F := F) c (kRecv d)) ∗ bigSep (ups 1) fun d => cred (tallyAt (cellAt c (kRecv d)) () (credK c (kRecv d))))
      ⊢ (bigSep (ups 1) (fun d => recvIn (F := F) c d) : sProp 𝕄) := by
    rw [← bigSep_sep']; exact bigSep_mono fun d hd => recv_ready c d (mem_ups.mp hd)
  have some (Φ : Fin 32 → sProp 𝕄) : bigSep Finset.univ Φ ⊢ bigSep (ups 1) Φ := bigSep_subset (Finset.subset_univ (ups 1))
  unfold mine payToks
  rw [cells_eq, cells_eq]
  iintro ⟨HK, ⟨⟨⟨HaB, HaB2⟩, ⟨HaS0, HaS⟩, HaR0, HaR⟩, HtB, HtB2, HtS, HtR⟩, ⟨⟨HcB, HcB2⟩, -, -, HcR⟩, Hlev, Ht, Hcm, Hx, Ho, HO⟩
  ihave #Hp := (pers_of_records m ρ K) $$ [HK Hlev]
  · isplitl [HK] <;> iassumption
  ihave Hcm := (comm_split (F := F) c) $$ Hcm
  icases Hcm with ⟨Hkept, Hgiven⟩
  ihave HtB := (some _) $$ HtB
  ihave HtB2 := (some _) $$ HtB2
  ihave HtS := (some _) $$ HtS
  ihave HtR := (some _) $$ HtR
  ihave Hsig := signals $$ [HtB Hgiven]
  · isplitl [HtB] <;> iassumption
  ihave Hcop := copies $$ [HtR HtS]
  · isplitl [HtR] <;> iassumption
  ihave Hrec := receives $$ [HaR HcR]
  · isplitl [HaR] <;> iassumption
  isplitl [HO Hsig]
  · unfold L1
    iapply (loop_start m ρ K c _ _ _)
    isplitr; · iexact Hp
    isplitl [HO]; · iexact HO
    iexact Hsig
  unfold R1 tail5 fin5
  isplitl [Hx]; · iexact Hx
  isplitl [Ho]; · iexact Ho
  isplitl [Ht]; · iexact Ht
  isplitl [Hkept]; · iexact Hkept
  isplitl [HcB HaB]
  · isplitl [HcB]; · iexact HcB
    iexact HaB
  isplitl [Hcop]; · iexact Hcop
  isplitl [Hrec]; · iexact Hrec
  isplitl [HaS]; · iexact HaS
  isplitl [HtB2]; · iexact HtB2
  isplitl [HcB2]; · iexact HcB2
  isplitl [HaB2]; · iexact HaB2
  isplitl [HaS0] <;> iassumption

/-! ## The body, as the pipeline library asks for it -/

/-- The pipeline's data: the arrays at launch, what the stages hold, what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

/-- The argument block is fetched. -/
theorem fetch_x (t : Fin cfg0.N) : (cfg0.win (0 : Fin 2)).fetch t = true := by rw [fin_N0 t]; rfl

/-- Owning a whole buffer is pointing to it with full share. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

/-- A buffer owned in full with contents `X`. -/
abbrev holds (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

/-- What the body starts from. -/
def bodyPre (c : Dev nD) : sProp 𝕄 :=
  iprop(Φ₀ m ρ c ∗ (dats m ρ 0 c).owesAt () t0_0.castSucc
    ∗ (∃ d, holds c cc0_stg0_0 ((dats m ρ 0 c).before (0 : Fin 2) t0_0 d))
    ∗ (∃ d, holds c cc0_stg1_0 ((dats m ρ 0 c).before (1 : Fin 2) t0_0 d)))
/-- What the body ends with. -/
def bodyPost (c : Dev nD) : sProp 𝕄 :=
  iprop(Φ₁ (F := F) c ∗ (dats m ρ 0 c).owesAt () t0_0.succ ∗ holds c cc0_stg0_0 (xstg m ρ c) ∗ holds c cc0_stg1_0 (outAt m ρ c))

/-- The end of the run gives what the body has to end with. -/
theorem body_done (c : Dev nD) : Done m ρ c (oPts c (outAt m ρ c)) ⊢ bodyPost m ρ c := by
  unfold Done bodyPost Φ₁ ow xPts oPts Dat.owesAt Pipeline.owesWithin
  rw [show (dats m ρ 0 c).owed t0_0.succ = 0 from rfl]
  iintro ⟨⟨%W, HO⟩, Hx, Ho, Ht, Hcm, Hz⟩
  isplitl [Ht Hcm Hz]
  · isplitl [Ht]; · iexact Ht
    isplitl [Hcm] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

/-- The body, from its start to its end. -/
theorem body_sound (c : Dev nD) : bodyPre m ρ c ⊢ Run c (cc0_body xM (Memref.isWhole_whole _) oM (Memref.isWhole_whole _)
    tM (Memref.isWhole_whole _) cM (Memref.isWhole_whole _) cc0_scratch2 cc0_scratch3 cc0_scoped0) (fun _ => bodyPost m ρ c) := by
  unfold bodyPre Φ₀ start ghost Dat.owesAt Pipeline.owesWithin
  iintro ⟨⟨⟨⟨%K, HK, Hm⟩, Hc, Hl⟩, Ht, Hcm⟩, ⟨%W, %hW, HO⟩, ⟨%d0, %g0, %hg0, Hx⟩, ⟨%d1, %g1, %hg1, Ho⟩⟩
  have hx : g0 = xstg m ρ c := by rw [hg0]; unfold Dat.before; rw [if_pos (fetch_x t0_0)]; rfl
  subst hx
  rw [show (dats m ρ 0 c).owed t0_0.castSucc = O₀ c from rfl]
  iapply (body_run m ρ K c (fun _ => bodyPost m ρ c) (body_done m ρ c))
  iapply (ready m ρ K c)
  isplitl [HK]; · iexact HK
  isplitl [Hm]; · iexact Hm
  isplitl [Hc]; · iexact Hc
  isplitl [Hl]; · iexact Hl
  isplitl [Ht]; · iexact Ht
  isplitl [Hcm]; · iexact Hcm
  isplitl [Hx]; · unfold xPts; iexact Hx
  isplitl [Ho]
  · unfold oAny oPts; iexists g1; iexact Ho
  unfold ow; iexists W; iexact HO

set_option maxRecDepth 4000 in
attribute [local irreducible] cc0_body wp in
/-- The body meets the pipeline's demand. -/
theorem body_obligation (c : Dev nD) : BodyObligation (dats (F := F) m ρ 0 c) (defs₀ (F := F)) 𝒱₀ () Set.univ := fun t => by
  rw [fin_N0 t]
  rw [show (bigSep Finset.univ : (Fin cfg0.W → sProp 𝕄) → sProp 𝕄) = fun Φ => iprop(Φ (0 : Fin 2) ∗ Φ (1 : Fin 2)) from funext fun Φ => bigSep_W0 Φ]
  simp only [owns_whole]
  show bodyPre m ρ c ⊢ wp frame (wpE (defs₀ (F := F)) 𝒱₀ (c : Thread nD τ) none) Set.univ (cc0_body xM (Memref.isWhole_whole _) oM (Memref.isWhole_whole _)
    tM (Memref.isWhole_whole _) cM (Memref.isWhole_whole _) cc0_scratch2 cc0_scratch3 cc0_scoped0) (fun _ => bodyPost m ρ c)
  exact body_sound m ρ c

/-! ## The launch theorem's side conditions -/

/-- The kernel's own semaphores are scoped, distinct and apart from the stages'. -/
theorem own_facts : Pipeline.OwnSemFacts cfg0.spec osem := by decide +kernel

/-- The windows are held in full. -/
theorem share_full (c : Dev nD) (w : Fin cfg0.W) : (dats m ρ 0 c).share w = fullShare := by unfold Dat.share; split <;> rfl

/-- A device's start, from what the launch gives it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

/-- The start is what the pipeline's first point asks for. -/
theorem phi_start (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ tAny commAny
  iintro ⟨Hs, -, Ht, Hcm⟩
  isplitl [Hs]; · iexact Hs
  isplitl [Ht] <;> iassumption

/-- The last point gives back the counters and the scratch buffers. -/
theorem phi_end (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ tAny commAny
  iintro ⟨Ht, Hcm, Hz⟩
  ihave Hz := (counters_split (F := F) c) $$ Hz
  icases Hz with ⟨Hu, Ho⟩
  isplitl [Hu]; · iexact Hu
  isplitl [Ho]; · iexact Ho
  isplitl [Ht] <;> iassumption

/-- The stages' semaphores are at the lowest level. -/
theorem stage_low (c : Dev nD) : ∀ (w : Fin cfg0.W) (s : Fin (cfg0.win w).nbuf), lv ((c : Thread nD τ), SemLoc.dma (((cfgs (0 : Fin 1)).win w).sem s)) () ≤ 0 := by
  have h : ∀ (w : Fin cfg0.W) (s : Fin (cfg0.win w).nbuf), (kindOf (SemLoc.dma (((cfgs (0 : Fin 1)).win w).sem s))) = none := by decide +kernel
  intro w s; unfold lv; rw [h w s]

/-- So the pipeline may wait on them, whatever the body owes. -/
theorem waits (c : Dev nD) : (levAts L lv : sProp 𝕄) ⊢ Pipeline.cellsWaits cfgs (dats m ρ) () 0 c :=
  Pipeline.cellsWaits_intro cfgs (dats m ρ) () 0 c fun w s t => by
    have h : Above 0 ((dats m ρ 0 c).owed t) := by
      rcases t with ⟨_ | _, ht⟩
      · exact above_O₀ c
      · exact above_zero 0
    exact mayWait 0 c _ (stage_low c w s) h

/-! ## The run -/

/-- The arrays' contents after the run. -/
def finalA (c : Dev nD) (w : Fin cfg0.W) : Buf (Elt F) ((cfg0.win w).arr.view.loc (c : Thread nD τ)) := (dats m ρ 0 c).arrAt w cfg0.N

/-- Every device's two arrays end at the computed contents. -/
def Ends : PUnit × MemSt nD τ sig (Elt F) → Prop := fun r =>
  ∀ c : Dev nD, ∀ w : Fin cfg0.W, r.2.mem ((cfg0.win w).arr.view.loc (c : Thread nD τ)) = finalA m ρ c w

attribute [local irreducible] cc0_body wp in
/-- Every weakly fair run of the program on the 32 devices ends, with the computed arrays and every counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := dealt m ρ) (G' := ghost m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi_start m ρ) (hout := phi_end m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument ends as it began. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.PrefixSum

end
-- ==== Proof.Final.lean ====
/-
The two programs' results over the extended reals: the reference's window sum as a sum over rows, the kernel's result array, and that each device ends with
its block of the reference's result.
-/
module

public import proofs.«01_k».proof.Proof.Value
public import proofs.«01_k».proof.Proof.Launch
public import proofs.«01_k».proof.Proof.Gen.ReferenceIdeal.Run
public import Idealize.ShloMosaic.Lib.Quiescent

@[expose] public section

set_option maxRecDepth 16384

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.ValueIdx

/-! ## The reference -/

set_option backward.proofsInPublic true in
/-- The row that position `k` of the window ending at row `R` falls on, the rows before the array counted from its end. -/
def windowEquiv (R : Fin 32768) : Fin 32768 ≃ Fin 32768 where
  toFun k := ⟨(R.val + k.val + 1) % 32768, Nat.mod_lt _ (by decide)⟩
  invFun q := ⟨(q.val + 65535 - R.val) % 32768, Nat.mod_lt _ (by decide)⟩
  left_inv k := by apply Fin.ext; have := k.isLt; have := R.isLt; dsimp only; omega
  right_inv k := by apply Fin.ext; have := k.isLt; have := R.isLt; dsimp only; omega

set_option backward.proofsInPublic true in
/-- A position of the window is its row position. -/
def columnEquiv : (⟨2, ![32768, 1]⟩ : Shape).Idx ≃ Fin 32768 where
  toFun p := p 0
  invFun k := ix2 k (0 : Fin 1)
  left_inv p := by
    funext a
    fin_cases a
    · rfl
    · exact Subsingleton.elim (α := Fin 1) _ _
  right_inv k := rfl

/-- The shape of the whole array. -/
abbrev Whole : Shape := ⟨2, ![32768, 512]⟩
/-- The shape of the reference's window. -/
abbrev Win : Shape := ⟨2, ![32768, 1]⟩

/-- The reference's result. -/
def total (x : FVec Ideal Whole .f32) : FVec Ideal Whole .f32 :=
  fun i => ∑ q : Fin 32768, if q.val ≤ (i 0).val then x (ix2 q (⟨(i 1).val, (i 1).isLt⟩ : Fin 512)) else 0

/-- What position `p` of the window at `i` holds: the array's element there, or the start value outside the array. -/
def windowAt (x : FVec Ideal Whole .f32) (v : EReal) (i : Whole.Idx) (p : Win.Idx) : EReal :=
  if hin : ∀ a : Fin 2, (![32767, 0] : Fin 2 → ℕ) a ≤ (i a).val * (![1, 1] : Fin 2 → ℕ) a + (p a).val
      ∧ (i a).val * (![1, 1] : Fin 2 → ℕ) a + (p a).val - (![32767, 0] : Fin 2 → ℕ) a < Whole.size a
  then x (fun a => ⟨(i a).val * (![1, 1] : Fin 2 → ℕ) a + (p a).val - (![32767, 0] : Fin 2 → ℕ) a, (hin a).2⟩) else v

/-- An entry of a window: a row up to the window's own, or else the padding's zero. -/
theorem windowAt_eq (x : FVec Ideal Whole .f32) (i : Whole.Idx) (k : Fin 32768) :
    windowAt x 0 i (ix2 k (0 : Fin 1))
      = if (windowEquiv (⟨(i 0).val, (i 0).isLt⟩ : Fin 32768) k).val ≤ (i 0).val
        then x (ix2 (windowEquiv (⟨(i 0).val, (i 0).isLt⟩ : Fin 32768) k) (⟨(i 1).val, (i 1).isLt⟩ : Fin 512)) else 0 := by
  have hk := k.isLt
  have h0 : (i 0).val < 32768 := (i 0).isLt
  have h1 : (i 1).val < 512 := (i 1).isLt
  have e : (windowEquiv (⟨(i 0).val, (i 0).isLt⟩ : Fin 32768) k).val = ((i 0).val + k.val + 1) % 32768 := rfl
  unfold windowAt
  by_cases h : 32767 ≤ (i 0).val + k.val
  · rw [dif_pos (Fin.forall_fin_two.mpr ⟨⟨show 32767 ≤ (i 0).val * 1 + k.val by omega, show (i 0).val * 1 + k.val - 32767 < 32768 by omega⟩,
      ⟨show 0 ≤ (i 1).val * 1 + 0 by omega, show (i 1).val * 1 + 0 - 0 < 512 by omega⟩⟩), if_pos (by rw [e]; omega)]
    refine congrArg x (funext fun a => Fin.ext ?_)
    fin_cases a
    · show (i 0).val * 1 + k.val - 32767 = ((i 0).val + k.val + 1) % 32768
      omega
    · show (i 1).val * 1 + 0 - 0 = (i 1).val
      omega
  · rw [dif_neg fun H => h (by have := (H 0).1; change 32767 ≤ (i 0).val * 1 + k.val at this; omega), if_neg (by rw [e]; omega)]

/-- The reference's window sums are the running sums over the rows. -/
theorem reference_total (x : FVec Ideal Whole .f32) (v : (⟨0, ![]⟩ : Shape).Idx → Ideal .f32) (hv : v = fun _ => (0 : EReal))
    (h : Whole.ReduceWindows (![32768, 1] : Fin 2 → ℕ) ![1, 1] ![32767, 0] ![0, 0] Whole) (hu : 0 < (⟨0, ![]⟩ : Shape).numel) :
    Host.reduceWindowAdd (F := Ideal) (s := Whole) (t := Whole) ![32768, 1] ![1, 1] ![32767, 0] ![0, 0] x v h hu = total x := by
  subst hv
  funext i
  have e : Host.reduceWindowAdd (F := Ideal) (s := Whole) (t := Whole) ![32768, 1] ![1, 1] ![32767, 0] ![0, 0] x (fun _ => (0 : EReal)) h hu i
      = (List.finRange Win.numel).foldl (fun r n => r + windowAt x 0 i (Win.rowMajor.symm n)) 0 := by
    unfold Host.reduceWindowAdd
    show Ideal.hostReduceWindowAdd ![32768, 1] ![1, 1] ![32767, 0] ![0, 0] h x 0 i = _
    unfold Ideal.hostReduceWindowAdd Host.reduceWindow
    refine congrArg (fun f => List.foldl f (0 : EReal) (List.finRange Win.numel)) (funext fun r => funext fun n => ?_)
    unfold windowAt
    exact congrArg (r + ·) (dite_congr rfl (fun _ => rfl) fun _ => rfl)
  rw [e, foldl_sum, zero_add, Equiv.sum_comp Win.rowMajor.symm (windowAt x 0 i), ← Equiv.sum_comp columnEquiv.symm (windowAt x 0 i)]
  unfold total
  refine Eq.trans ?_ (Equiv.sum_comp (windowEquiv (⟨(i 0).val, (i 0).isLt⟩ : Fin 32768))
    (fun q => if q.val ≤ (i 0).val then x (ix2 q (⟨(i 1).val, (i 1).isLt⟩ : Fin 512)) else 0))
  exact Finset.sum_congr rfl fun k _ => windowAt_eq x i k

/-! ## The kernel -/

variable (m : (ℓ : Loc nD τ sig) → Buf (Elt Ideal) ℓ) (ρ : Dev nD → PrngReg)

/-- The argument's one block is the whole array. -/
theorem arg_read (f : (main_arg0 : Ref sig .tc).ty.Contents (Elt Ideal)) : (win0_0.blk (0 : Fin 1)).view.read (Elt Ideal) f = f :=
  Memref.read_access_unit_zero (Elt Ideal) main_arg0 (funext fun a => by fin_cases a <;> decide) (fun a => by fin_cases a <;> decide) f
/-- The result's one block is the whole array. -/
theorem res_read (f : (main_v1 : Ref sig .tc).ty.Contents (Elt Ideal)) : (win0_1.blk (0 : Fin 1)).view.read (Elt Ideal) f = f :=
  Memref.read_access_unit_zero (Elt Ideal) main_v1 (funext fun a => by fin_cases a <;> decide) (fun a => by fin_cases a <;> decide) f

/-- The result array ends at what the body puts out. -/
theorem finalA_out (c : Dev nD) : finalA m ρ c (1 : Fin 2) = outAt m ρ c := by
  refine (res_read _).symm.trans ?_
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- Where each device starts with its block of a whole array, each ends with its block of the running sums of the whole array. -/
theorem outAt_block (x : FVec Ideal Whole .f32)
    (hx : ∀ c : Dev nD, m ((c.tc : Thread nD τ).loc main_arg0) = Layout.block ⟨2, ![1024, 512]⟩ ⟨2, ![32768, 512]⟩ 0 32 c x) (c : Dev nD) :
    outAt m ρ c = Layout.block ⟨2, ![1024, 512]⟩ ⟨2, ![32768, 512]⟩ 0 32 c (total x) := by
  funext i
  rw [eq_ix2 i]
  refine (outAt_apply m ρ c (fun q j => x (ix2 q j)) (fun b k j => ?_) _ _).trans ?_
  · unfold xstg
    refine (congrFun (arg_read _) (ix2 k j)).trans ?_
    refine (congrFun (hx b) (ix2 k j)).trans (congrArg x ?_)
    funext a; fin_cases a <;> rfl
  · rfl

end Cert.PrefixSum

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import Idealize.ShloMosaic.Adequacy
public import Idealize.ShloMosaic.Init

@[expose] public section

noncomputable section

namespace Cert.Proof

open Idealize.ShloMosaic Idealize.SL.Sem Cert.Kernel

/-- The program and the one read at the ideal instance have the same text, hence the same body table. -/
theorem bodies_agree : Cert.Kernel.defs₀ (F := Bits) = Cert.KernelIdeal.defs₀ (F := Bits) := by
  funext κ l x
  cases κ
  · match l, x with
    | 0, (t, s) => rfl
  all_goals rfl

/-- So the tables with the pipeline's labels agree too. -/
theorem defs_agree : Cert.Kernel.defs (F := Bits) = Cert.KernelIdeal.defs (F := Bits) :=
  congrArg (Pipeline.defs (Cert.KernelIdeal.pcfgs (F := Bits))) bodies_agree

/-- The kernel's text is its idealization's, so the run proved once over any float values is its run too. -/
theorem frame_kernel : Cert.quiescent_Kernel := fun m g _ => by
  have h := (θ_run (Cert.KernelIdeal.defs (F := Bits)) _ _).mono
    (fun _ h => ⟨fun c => (h.1 c (0 : Fin 2)).trans (Cert.PrefixSum.finalA_x (F := Bits) m g c), h.2⟩ :
      _ ≤ fun r : PUnit × MemSt Cert.KernelIdeal.nD Cert.KernelIdeal.τ Cert.KernelIdeal.sig (Elt Bits) =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0)
    (Cert.PrefixSum.run_main (F := Bits) m g)
  rw [defs_agree]
  exact h

/-- The ideal program runs without fault, keeps its argument, and leaves every semaphore at zero. -/
theorem frame_ideal : Cert.quiescent_KernelIdeal := fun m g _ =>
  (θ_run Cert.KernelIdeal.defs _ _).mono (fun _ h => ⟨fun c => (h.1 c (0 : Fin 2)).trans (Cert.PrefixSum.finalA_x (F := Ideal) m g c), h.2⟩)
    (Cert.PrefixSum.run_main (F := Ideal) m g)

/-- The reference runs, keeps its argument, and has no semaphores. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The reference's running sums of its argument are the values of which each device ends with its block. -/
theorem value : Cert.algebraic_KernelIdeal_ReferenceIdeal := fun m g m' g' _ hx =>
  ⟨Cert.PrefixSum.total (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨((h.1 c (1 : Fin 2)).trans (Cert.PrefixSum.finalA_out m g c)).trans (Cert.PrefixSum.outAt_block m g _ hx c),
        (h.1 c (0 : Fin 2)).trans (Cert.PrefixSum.finalA_x (F := Ideal) m g c)⟩)
      (Cert.PrefixSum.run_main (F := Ideal) m g),
    (θ_run Cert.ReferenceIdeal.defs _ _).mono
      (fun _ h => ⟨(h 0).1.trans (Cert.PrefixSum.reference_total _ _ (funext fun _ => Ideal.ofBits_zero_f32) _ _), (h 0).2⟩)
      (Cert.ReferenceIdeal.Value.run (F := Ideal) m' g')⟩

/-- All the claims together. -/
theorem claim : Cert.Claim :=
  ⟨Cert.Kernel.Gen.facts, Cert.KernelIdeal.Gen.facts, Cert.ReferenceIdeal.Gen.facts, frame_kernel, frame_ideal, frame_reference, trivial, value⟩

end Cert.Proof

end
